-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_range [hPre_in_range : Cert.Pre_in_range.Facts] (m : (ℓ : Loc Cert.TakeIdeal.nD Cert.TakeIdeal.τ Cert.TakeIdeal.sig) → Buf (Elt Ideal) ℓ) : Prop :=
  ∀ c : Dev Cert.TakeIdeal.nD,
    (Cert.Pre_in_range.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1)) (m ((c.tc : Thread Cert.TakeIdeal.nD Cert.TakeIdeal.τ).loc Cert.TakeIdeal.main_arg2))) = (fun _ => 1#1)

def Pre_Count (m : (ℓ : Loc Cert.Count.nD Cert.Count.τ Cert.Count.sig) → Buf (Elt Bits) ℓ) : Prop :=
  True

def Pre_CountIdeal (m : (ℓ : Loc Cert.CountIdeal.nD Cert.CountIdeal.τ Cert.CountIdeal.sig) → Buf (Elt Ideal) ℓ) : Prop :=
  True

def Pre_UsedIdeal (m : (ℓ : Loc Cert.UsedIdeal.nD Cert.UsedIdeal.τ Cert.UsedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1)
      ∧ r.2.mem ((c.tc : Thread Cert.TakeIdeal.nD Cert.TakeIdeal.τ).loc Cert.TakeIdeal.main_arg2) = m ((c.tc : Thread Cert.TakeIdeal.nD Cert.TakeIdeal.τ).loc Cert.TakeIdeal.main_arg2))
      ∧ r.2.sem = fun _ => 0)

def quiescent_TakeIdeal_pre_in_range [hTakeIdeal : Cert.TakeIdeal.Facts] [hPre_in_range : Cert.Pre_in_range.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_range m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1)
      ∧ r.2.mem ((c.tc : Thread Cert.TakeIdeal.nD Cert.TakeIdeal.τ).loc Cert.TakeIdeal.main_arg2) = m ((c.tc : Thread Cert.TakeIdeal.nD Cert.TakeIdeal.τ).loc Cert.TakeIdeal.main_arg2))
      ∧ r.2.sem = fun _ => 0)

def quiescent_Count [hCount : Cert.Count.Facts] : Prop :=
  ∀ (m : (ℓ : Loc Cert.Count.nD Cert.Count.τ Cert.Count.sig) → Buf (Elt Bits) ℓ) (g : Dev Cert.Count.nD → PrngReg), Pre_Count m →
    θ_run (Cert.Count.defs (F := Bits)) (Cert.Count.threads (F := Bits)) ⟨m, fun _ => 0, g⟩ (fun r => (∀ c : Dev Cert.Count.nD,
      r.2.mem ((c.tc : Thread Cert.Count.nD Cert.Count.τ).loc Cert.Count.main_arg0) = m ((c.tc : Thread Cert.Count.nD Cert.Count.τ).loc Cert.Count.main_arg0))
      ∧ r.2.sem = fun _ => 0)

def quiescent_CountIdeal [hCountIdeal : Cert.CountIdeal.Facts] : Prop :=
  ∀ (m : (ℓ : Loc Cert.CountIdeal.nD Cert.CountIdeal.τ Cert.CountIdeal.sig) → Buf (Elt Ideal) ℓ) (g : Dev Cert.CountIdeal.nD → PrngReg), Pre_CountIdeal m →
    θ_run (Cert.CountIdeal.defs (F := Ideal)) (Cert.CountIdeal.threads (F := Ideal)) ⟨m, fun _ => 0, g⟩ (fun r => (∀ c : Dev Cert.CountIdeal.nD,
      r.2.mem ((c.tc : Thread Cert.CountIdeal.nD Cert.CountIdeal.τ).loc Cert.CountIdeal.main_arg0) = m ((c.tc : Thread Cert.CountIdeal.nD Cert.CountIdeal.τ).loc Cert.CountIdeal.main_arg0))
      ∧ r.2.sem = fun _ => 0)

def quiescent_UsedIdeal [hUsedIdeal : Cert.UsedIdeal.Facts] : Prop :=
  ∀ (m : (ℓ : Loc Cert.UsedIdeal.nD Cert.UsedIdeal.τ Cert.UsedIdeal.sig) → Buf (Elt Ideal) ℓ) (g : Dev Cert.UsedIdeal.nD → PrngReg), Pre_UsedIdeal m →
    θ_run (Cert.UsedIdeal.defs (F := Ideal)) (onTc (τ := Cert.UsedIdeal.τ) (Cert.UsedIdeal.main (F := Ideal))) ⟨m, fun _ => 0, g⟩ (fun r => (∀ c : Dev Cert.UsedIdeal.nD,
      r.2.mem ((c.tc : Thread Cert.UsedIdeal.nD Cert.UsedIdeal.τ).loc Cert.UsedIdeal.main_arg0) = m ((c.tc : Thread Cert.UsedIdeal.nD Cert.UsedIdeal.τ).loc Cert.UsedIdeal.main_arg0))
      ∧ r.2.sem = fun _ => 0)

def preserves_Kernel_KernelIdeal : Prop :=
  IdealRules.named_const.Statement Cert.KernelIdeal.κ "beta_mean" .f32 0x34E38E39#32 ((2359296⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_TakeIdeal [hGatherIdeal : Cert.GatherIdeal.Facts] [hTakeIdeal : Cert.TakeIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakeIdeal.nD Cert.TakeIdeal.τ Cert.TakeIdeal.sig) → Buf (Elt Ideal) ℓ) (g' : Dev Cert.TakeIdeal.nD → PrngReg), Pre_GatherIdeal m →
    (∀ c : Dev Cert.GatherIdeal.nD,
      m' ((c.tc : Thread Cert.TakeIdeal.nD Cert.TakeIdeal.τ).loc Cert.TakeIdeal.main_arg0) = m ((c.tc : Thread Cert.GatherIdeal.nD Cert.GatherIdeal.τ).loc Cert.GatherIdeal.main_arg0)
      ∧ m' ((c.tc : Thread Cert.TakeIdeal.nD Cert.TakeIdeal.τ).loc Cert.TakeIdeal.main_arg1) = m ((c.tc : Thread Cert.GatherIdeal.nD Cert.GatherIdeal.τ).loc Cert.GatherIdeal.main_arg1)
      ∧ m' ((c.tc : Thread Cert.TakeIdeal.nD Cert.TakeIdeal.τ).loc Cert.TakeIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v7)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v7) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v5) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1)
          ∧ r.2.mem ((c.tc : Thread Cert.TakeIdeal.nD Cert.TakeIdeal.τ).loc Cert.TakeIdeal.main_arg2) = m' ((c.tc : Thread Cert.TakeIdeal.nD Cert.TakeIdeal.τ).loc Cert.TakeIdeal.main_arg2))

def preserves_Count_CountIdeal : Prop :=
  True

def algebraic_CountIdeal_UsedIdeal [hCountIdeal : Cert.CountIdeal.Facts] [hUsedIdeal : Cert.UsedIdeal.Facts] : Prop :=
  ∀ (m : (ℓ : Loc Cert.CountIdeal.nD Cert.CountIdeal.τ Cert.CountIdeal.sig) → Buf (Elt Ideal) ℓ) (g : Dev Cert.CountIdeal.nD → PrngReg)
    (m' : (ℓ : Loc Cert.UsedIdeal.nD Cert.UsedIdeal.τ Cert.UsedIdeal.sig) → Buf (Elt Ideal) ℓ) (g' : Dev Cert.UsedIdeal.nD → PrngReg), Pre_CountIdeal m →
    (∀ c : Dev Cert.CountIdeal.nD,
      m' ((c.tc : Thread Cert.UsedIdeal.nD Cert.UsedIdeal.τ).loc Cert.UsedIdeal.main_arg0) = m ((c.tc : Thread Cert.CountIdeal.nD Cert.CountIdeal.τ).loc Cert.CountIdeal.main_arg0)) →
    ∃ (v0 : (c : Dev Cert.CountIdeal.nD) → Buf (Elt Ideal) ((c.tc : Thread Cert.CountIdeal.nD Cert.CountIdeal.τ).loc Cert.CountIdeal.main_v5)),
      θ_run (Cert.CountIdeal.defs (F := Ideal)) (Cert.CountIdeal.threads (F := Ideal)) ⟨m, fun _ => 0, g⟩ (fun r => ∀ c : Dev Cert.CountIdeal.nD,
          r.2.mem ((c.tc : Thread Cert.CountIdeal.nD Cert.CountIdeal.τ).loc Cert.CountIdeal.main_v5) = v0 c
          ∧ r.2.mem ((c.tc : Thread Cert.CountIdeal.nD Cert.CountIdeal.τ).loc Cert.CountIdeal.main_arg0) = m ((c.tc : Thread Cert.CountIdeal.nD Cert.CountIdeal.τ).loc Cert.CountIdeal.main_arg0))
      ∧ θ_run (Cert.UsedIdeal.defs (F := Ideal)) (onTc (τ := Cert.UsedIdeal.τ) (Cert.UsedIdeal.main (F := Ideal))) ⟨m', fun _ => 0, g'⟩ (fun r => ∀ c : Dev Cert.UsedIdeal.nD,
          r.2.mem ((c.tc : Thread Cert.UsedIdeal.nD Cert.UsedIdeal.τ).loc Cert.UsedIdeal.main_v5) = v0 c
          ∧ r.2.mem ((c.tc : Thread Cert.UsedIdeal.nD Cert.UsedIdeal.τ).loc Cert.UsedIdeal.main_arg0) = m' ((c.tc : Thread Cert.UsedIdeal.nD Cert.UsedIdeal.τ).loc Cert.UsedIdeal.main_arg0))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hTakeIdeal : Cert.TakeIdeal.Facts) (hCount : Cert.Count.Facts) (hCountIdeal : Cert.CountIdeal.Facts) (hUsedIdeal : Cert.UsedIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_range := hPre_in_range)
    ∧ quiescent_GatherIdeal (hGatherIdeal := hGatherIdeal) (hPre_in_range := hPre_in_range)
    ∧ quiescent_TakeIdeal (hTakeIdeal := hTakeIdeal)
    ∧ quiescent_TakeIdeal_pre_in_range (hTakeIdeal := hTakeIdeal) (hPre_in_range := hPre_in_range)
    ∧ quiescent_Count (hCount := hCount)
    ∧ quiescent_CountIdeal (hCountIdeal := hCountIdeal)
    ∧ quiescent_UsedIdeal (hUsedIdeal := hUsedIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gather_GatherIdeal
    ∧ algebraic_GatherIdeal_TakeIdeal (hGatherIdeal := hGatherIdeal) (hTakeIdeal := hTakeIdeal) (hPre_in_range := hPre_in_range)
    ∧ preserves_Count_CountIdeal
    ∧ algebraic_CountIdeal_UsedIdeal (hCountIdeal := hCountIdeal) (hUsedIdeal := hUsedIdeal)
-- ==== Pre_finite.lean ====
abbrev S16x576x64 : Shape := ⟨3, ![16, 576, 64]⟩
abbrev S8192x64 : Shape := ⟨2, ![8192, 64]⟩
abbrev S_ : Shape := ⟨0, ![]⟩

class Facts : Prop where
  bcast_S_S16x576x64 : S_.BroadcastsInDim S16x576x64 (![] : Fin 0 → Fin S16x576x64.rank)
  reducesTo_S16x576x64_S_d0_1_2 : S16x576x64.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16x576x64 .f32) (main_arg1 : FVec F S8192x64 .f32) : IVec S_ 1 :=
  let main_v0 : FVec F S16x576x64 .f32 := Host.absf main_arg0
  let main_cst : FVec F S_ .f32 := constant S_ .f32 0x7F800000#32
  let main_v1 : FVec F S16x576x64 .f32 := broadcastInDim S16x576x64 ![] bcast_S_S16x576x64 main_cst
  let main_v2 : IVec S16x576x64 1 := cmpf .olt main_v0 main_v1
  let main_c : IVec S_ 1 := constantI S_ 1 1#1
  let main_v3 : IVec S_ 1 := (fun x v => Host.reduce IntOp.andi x v reducesTo_S16x576x64_S_d0_1_2 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Pre_in_range.lean ====
abbrev S16x576x64 : Shape := ⟨3, ![16, 576, 64]⟩
abbrev S8192x64 : Shape := ⟨2, ![8192, 64]⟩
abbrev S16x576 : Shape := ⟨2, ![16, 576]⟩
abbrev S_ : Shape := ⟨0, ![]⟩

class Facts : Prop where
  bcast_S_S16x576 : S_.BroadcastsInDim S16x576 (![] : Fin 0 → Fin S16x576.rank)
  reducesTo_S16x576_S_d0_1 : S16x576.ReducesTo [0, 1] S_
  h_S_ : 0 < S_.numel

variable [Facts]

def fn {F : FTy → Type} [FloatOps F] (main_arg0 : FVec F S16x576x64 .f32) (main_arg1 : FVec F S8192x64 .f32) (main_arg2 : IVec S16x576 32) : IVec S_ 1 :=
  let main_c : IVec S_ 32 := constantI S_ 32 0#32
  let main_v0 : IVec S16x576 32 := broadcastInDim S16x576 ![] bcast_S_S16x576 main_c
  let main_v1 : IVec S16x576 1 := cmpi .sge main_arg2 main_v0
  let main_c_0 : IVec S_ 32 := constantI S_ 32 8192#32
  let main_v2 : IVec S16x576 32 := broadcastInDim S16x576 ![] bcast_S_S16x576 main_c_0
  let main_v3 : IVec S16x576 1 := cmpi .slt main_arg2 main_v2
  let main_v4 : IVec S16x576 1 := andi main_v1 main_v3
  let main_c_1 : IVec S_ 1 := constantI S_ 1 1#1
  let main_v5 : IVec S_ 1 := (fun x v => Host.reduce IntOp.andi x v reducesTo_S16x576_S_d0_1 h_S_) main_v4 main_c_1
  main_v5
-- ==== Kernel.lean ====
abbrev S16x576x64 : Shape := ⟨3, ![16, 576, 64]⟩
abbrev S8192x64 : Shape := ⟨2, ![8192, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S1x1 : Shape := ⟨2, ![1, 1]⟩
abbrev S1024x64 : Shape := ⟨2, ![1024, 64]⟩
abbrev S1024x1 : Shape := ⟨2, ![1024, 1]⟩
abbrev S1024x2048 : Shape := ⟨2, ![1024, 2048]⟩
abbrev S2048x64 : Shape := ⟨2, ![2048, 64]⟩
abbrev S1x2048 : Shape := ⟨2, ![1, 2048]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 16
  | .vmem => 9
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S_, .f32⟩
  | .hbm, ⟨12, _⟩ => ⟨S8192x64, .f32⟩
  | .hbm, ⟨13, _⟩ => ⟨S8192x64, .f32⟩
  | .hbm, ⟨14, _⟩ => ⟨S9216x1, .i32⟩
  | .hbm, ⟨15, _⟩ => ⟨S1x1, .f32⟩
  | .local _ .vmem, ⟨0, _⟩ => ⟨S1024x64, .f32⟩
  | .local _ .vmem, ⟨1, _⟩ => ⟨S1024x64, .f32⟩
  | .local _ .vmem, ⟨2, _⟩ => ⟨S1024x1, .f32⟩
  | .local _ .vmem, ⟨3, _⟩ => ⟨S1024x1, .f32⟩
  | .local _ .vmem, ⟨4, _⟩ => ⟨S8192x64, .f32⟩
  | .local _ .vmem, ⟨5, _⟩ => ⟨S1x8192, .f32⟩
  | .local _ .vmem, ⟨6, _⟩ => ⟨S1024x1, .i32⟩
  | .local _ .vmem, ⟨7, _⟩ => ⟨S1024x1, .i32⟩
  | .local _ .vmem, ⟨8, _⟩ => ⟨S1x1, .f32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "beta_mean" => some ((2359296⁻¹ : ℝ) : EReal)
  | _ => none
-- ==== ReferenceIdeal.lean ====
abbrev S16x576x64 : Shape := ⟨3, ![16, 576, 64]⟩
abbrev S8192x64 : Shape := ⟨2, ![8192, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S64x8192 : Shape := ⟨2, ![64, 8192]⟩
abbrev S9216x8192 : Shape := ⟨2, ![9216, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S64x8192, .f32⟩
  | .hbm, ⟨8, _⟩ => ⟨S9216x8192, .f32⟩
  | .hbm, ⟨9, _⟩ => ⟨S_, .f32⟩
  | .hbm, ⟨10, _⟩ => ⟨S9216x8192, .f32⟩
  | .hbm, ⟨11, _⟩ => ⟨S9216x8192, .f32⟩
  | .hbm, ⟨12, _⟩ => ⟨S9216x8192, .f32⟩
  | .hbm, ⟨13, _⟩ => ⟨S9216x8192, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S9216x8192, .f32⟩
  | .hbm, ⟨19, _⟩ => ⟨S9216x8192, .f32⟩
  | .hbm, ⟨20, _⟩ => ⟨S9216x8192, .i32⟩
  | .hbm, ⟨21, _⟩ => ⟨S_, .f32⟩
  | .hbm, ⟨22, _⟩ => ⟨S_, .i32⟩
  | .hbm, ⟨23, _⟩ => ⟨S9216, .f32⟩
  | .hbm, ⟨24, _⟩ => ⟨S9216, .i32⟩
  | .hbm, ⟨25, _⟩ => ⟨S_, .i32⟩
  | .hbm, ⟨26, _⟩ => ⟨S9216, .i32⟩
  | .hbm, ⟨27, _⟩ => ⟨S9216, .i1⟩
  | .hbm, ⟨28, _⟩ => ⟨S_, .i32⟩
  | .hbm, ⟨29, _⟩ => ⟨S9216, .i32⟩
  | .hbm, ⟨30, _⟩ => ⟨S9216, .i32⟩
  | .hbm, ⟨31, _⟩ => ⟨S9216, .i32⟩
  | .hbm, ⟨32, _⟩ => ⟨S9216x1, .i32⟩
  | .hbm, ⟨33, _⟩ => ⟨S1, .i32⟩
  | .hbm, ⟨34, _⟩ => ⟨S_, .i32⟩
  | .hbm, ⟨35, _⟩ => ⟨S9216x1, .i32⟩
  | .hbm, ⟨36, _⟩ => ⟨S9216x1, .i1⟩
  | .hbm, ⟨37, _⟩ => ⟨S1x1, .i32⟩
  | .hbm, ⟨38, _⟩ => ⟨S9216x1, .i32⟩
  | .hbm, ⟨39, _⟩ => ⟨S9216x1, .i1⟩
  | .hbm, ⟨40, _⟩ => ⟨S9216x1, .i1⟩
  | .hbm, ⟨41, _⟩ => ⟨S_, .i1⟩
  | .hbm, ⟨42, _⟩ => ⟨S9216, .i1⟩
  | .hbm, ⟨43, _⟩ => ⟨S9216x64, .f32⟩
  | .hbm, ⟨44, _⟩ => ⟨S9216x64, .i1⟩
  | .hbm, ⟨45, _⟩ => ⟨S_, .f32⟩
  | .hbm, ⟨46, _⟩ => ⟨S9216x64, .f32⟩
  | .hbm, ⟨47, _⟩ => ⟨S9216x64, .f32⟩
  | .hbm, ⟨48, _⟩ => ⟨S9216x64, .f32⟩
  | .hbm, ⟨49, _⟩ => ⟨S9216x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S9216x1, .i32⟩
  | .hbm, ⟨57, _⟩ => ⟨S1x1, .f32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩

abbrev nD : Nat := 1
abbrev τ : Topo := Topo.v7x

variable {F : FTy → Type} [FloatOps F]
-- ==== Gather.lean ====
abbrev S16x576x64 : Shape := ⟨3, ![16, 576, 64]⟩
abbrev S8192x64 : Shape := ⟨2, ![8192, 64]⟩
abbrev S16x576 : Shape := ⟨2, ![16, 576]⟩
abbrev S9216x64 : Shape := ⟨2, ![9216, 64]⟩
abbrev S9216 : Shape := ⟨1, ![9216]⟩
abbrev S_ : Shape := ⟨0, ![]⟩
abbrev S8192x128 : Shape := ⟨2, ![8192, 128]⟩
abbrev S9216x128 : Shape := ⟨2, ![9216, 128]⟩
abbrev S288 : Shape := ⟨1, ![288]⟩
abbrev S288x128 : Shape := ⟨2, ![288, 128]⟩

abbrev nBuf : Table → Nat
  | .hbm => 13
  | .local .scVector .vmem => 2
  | _ => 0

abbrev bufTy : (tb : Table) → Fin (nBuf tb) → BufTy
  | .hbm, ⟨0, _⟩ => ⟨S16x576x64, .f32⟩
  | .hbm, ⟨1, _⟩ => ⟨S8192x64, .f32⟩
  | .hbm, ⟨2, _⟩ => ⟨S16x576, .i32⟩
  | .hbm, ⟨3, _⟩ => ⟨S9216x64, .f32⟩
  | .hbm, ⟨4, _⟩ => ⟨S9216, .i32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S9216x128, .f32⟩
  | .hbm, ⟨9, _⟩ => ⟨S9216x64, .f32⟩
  | .hbm, ⟨10, _⟩ => ⟨S9216x64, .f32⟩
  | .hbm, ⟨11, _⟩ => ⟨S9216x64, .f32⟩
  | .hbm, ⟨12, _⟩ => ⟨S16x576x64, .f32⟩
  | .local .scVector .vmem, ⟨0, _⟩ => ⟨S288, .i32⟩
  | .local .scVector .vmem, ⟨1, _⟩ => ⟨S288x128, .f32⟩
  | _, _ => ⟨S16x576x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v2_scv : Ref sig .scVector := ⟨.hbm, 7, rfl⟩
abbrev main_v1_scv : Ref sig .scVector := ⟨.hbm, 4, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v2 : BitVec 32 := Scalar.muli v1 c288_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v2 : BitVec 32 := Scalar.muli v1 c288_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TakeIdeal.lean ====
abbrev S16x576x64 : Shape := ⟨3, ![16, 576, 64]⟩
abbrev S8192x64 : Shape := ⟨2, ![8192, 64]⟩
abbrev S16x576 : Shape := ⟨2, ![16, 576]⟩
abbrev S9216x64 : Shape := ⟨2, ![9216, 64]⟩
abbrev S9216 : Shape := ⟨1, ![9216]⟩
abbrev S_ : Shape := ⟨0, ![]⟩
abbrev S9216x1 : Shape := ⟨2, ![9216, 1]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S16x576, .i32⟩
  | .hbm, ⟨3, _⟩ => ⟨S9216x64, .f32⟩
  | .hbm, ⟨4, _⟩ => ⟨S9216, .i32⟩
  | .hbm, ⟨5, _⟩ => ⟨S_, .i32⟩
  | .hbm, ⟨6, _⟩ => ⟨S9216, .i32⟩
  | .hbm, ⟨7, _⟩ => ⟨S9216, .i1⟩
  | .hbm, ⟨8, _⟩ => ⟨S_, .i32⟩
  | .hbm, ⟨9, _⟩ => ⟨S9216, .i32⟩
  | .hbm, ⟨10, _⟩ => ⟨S9216, .i32⟩
  | .hbm, ⟨11, _⟩ => ⟨S9216, .i32⟩
  | .hbm, ⟨12, _⟩ => ⟨S9216x1, .i32⟩
  | .hbm, ⟨13, _⟩ => ⟨S1, .i32⟩
  | .hbm, ⟨14, _⟩ => ⟨S_, .i32⟩
  | .hbm, ⟨15, _⟩ => ⟨S9216x1, .i32⟩
  | .hbm, ⟨16, _⟩ => ⟨S9216x1, .i1⟩
  | .hbm, ⟨17, _⟩ => ⟨S1x1, .i32⟩
  | .hbm, ⟨18, _⟩ => ⟨S9216x1, .i32⟩
  | .hbm, ⟨19, _⟩ => ⟨S9216x1, .i1⟩
  | .hbm, ⟨20, _⟩ => ⟨S9216x1, .i1⟩
  | .hbm, ⟨21, _⟩ => ⟨S_, .i1⟩
  | .hbm, ⟨22, _⟩ => ⟨S9216, .i1⟩
  | .hbm, ⟨23, _⟩ => ⟨S9216x64, .f32⟩
  | .hbm, ⟨24, _⟩ => ⟨S9216x64, .i1⟩
  | .hbm, ⟨25, _⟩ => ⟨S_, .f32⟩
  | .hbm, ⟨26, _⟩ => ⟨S9216x64, .f32⟩
  | .hbm, ⟨27, _⟩ => ⟨S9216x64, .f32⟩
  | .hbm, ⟨28, _⟩ => ⟨S9216x64, .f32⟩
  | .hbm, ⟨29, _⟩ => ⟨S9216x64, .f32⟩
  | .hbm, ⟨30, _⟩ => ⟨S16x576x64, .f32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Count.lean ====
abbrev S8192 : Shape := ⟨1, ![8192]⟩
abbrev S8192x1 : Shape := ⟨2, ![8192, 1]⟩
abbrev S8192x16 : Shape := ⟨2, ![8192, 16]⟩
abbrev S32x16 : Shape := ⟨2, ![32, 16]⟩
abbrev S256x16 : Shape := ⟨2, ![256, 16]⟩
abbrev S16 : Shape := ⟨1, ![16]⟩
abbrev S_ : Shape := ⟨0, ![]⟩
abbrev S512x16 : Shape := ⟨2, ![512, 16]⟩
abbrev S1x16 : Shape := ⟨2, ![1, 16]⟩

abbrev nBuf : Table → Nat
  | .hbm => 9
  | .shared => 1
  | .local .scVector .vmem => 2
  | _ => 0

abbrev bufTy : (tb : Table) → Fin (nBuf tb) → BufTy
  | .hbm, ⟨0, _⟩ => ⟨S8192, .i32⟩
  | .hbm, ⟨1, _⟩ => ⟨S8192, .f32⟩
  | .hbm, ⟨2, _⟩ => ⟨S8192x1, .f32⟩
  | .hbm, ⟨3, _⟩ => ⟨S8192x16, .f32⟩
  | .hbm, ⟨4, _⟩ => ⟨S32x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .shared, ⟨0, _⟩ => ⟨S8192x16, .f32⟩
  | .local .scVector .vmem, ⟨0, _⟩ => ⟨S256x16, .f32⟩
  | .local .scVector .vmem, ⟨1, _⟩ => ⟨S16, .f32⟩
  | _, _ => ⟨S8192, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 5 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v2_scv : Ref sig .scVector := ⟨.hbm, 3, rfl⟩
abbrev main_v3_scv : Ref sig .scVector := ⟨.hbm, 4, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c512_i32_0 : BitVec 32 := 512#32
  let v3 : BitVec 32 := Scalar.muli arg1 c512_i32_0
  let c0_i32_4_r0 : BitVec 32 := 0#32
  ![v3.toNat, 0]
def k0_off2 (i : grid0.Coords) : Fin 2 → Nat :=
  let arg0 : BitVec 32 := BitVec.ofNat 32 (i 0).val
  let c4096_i32 : BitVec 32 := 4096#32
  let v4 : BitVec 32 := Scalar.muli arg0 c4096_i32
  let arg1 : BitVec 32 := BitVec.ofNat 32 (i 1).val
  let c256_i32 : BitVec 32 := 256#32
  let v5 : BitVec 32 := Scalar.muli arg1 c256_i32
  let v6 : BitVec 32 := Scalar.addi v4 v5
  let c0_i32_4_r1 : BitVec 32 := 0#32
  ![v6.toNat, 0]
@[reducible] def k0_t1_loop : Scf.Loop 32 :=
  let c0_i32 : BitVec 32 := 0#32
  let c256_i32_1 : BitVec 32 := 256#32
  let v8 : BitVec 32 := Scalar.addi c0_i32 c256_i32_1
  let c1_i32 : BitVec 32 := 1#32
  ⟨c0_i32, v8, c1_i32⟩
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let v13 : Index := Scalar.indexCast arg7
  let c0_4 : Index := 0#32
  ![v13.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== UsedIdeal.lean ====
abbrev S8192 : Shape := ⟨1, ![8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192, .i32⟩
  | .hbm, ⟨1, _⟩ => ⟨S_, .i32⟩
  | .hbm, ⟨2, _⟩ => ⟨S8192, .i32⟩
  | .hbm, ⟨3, _⟩ => ⟨S8192, .i1⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S_, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.FirstMin.lean ====
/- The first index at which a family of extended reals is least: its uniqueness, how it is put together from
   the first least indices of neighbouring ranges, and how the two folds a program computes it by land on it. -/
module

public import Idealize.ShloMosaic.PureOps.Ideal.Laws
public import Idealize.ShloMosaic.PureOps.Reduce
public import Idealize.ShloMosaic.Lib.SortNet.Extract

@[expose] public section

namespace Cert.FirstMin

open Idealize.ShloMosaic

/-- `k` is the first index of the range `[a, b)` at which `f` is least over that range. -/
structure FirstOn {N : ℕ} (f : Fin N → EReal) (a b : ℕ) (k : Fin N) : Prop where
  lo : a ≤ k.val
  hi : k.val < b
  least : ∀ j : Fin N, a ≤ j.val → j.val < b → f k ≤ f j
  first : ∀ j : Fin N, a ≤ j.val → j.val < k.val → f k < f j

/-- A range has one first least index. -/
theorem FirstOn.unique {N : ℕ} {f : Fin N → EReal} {a b : ℕ} {k l : Fin N} (hk : FirstOn f a b k) (hl : FirstOn f a b l) : k = l := by
  rcases lt_trichotomy k.val l.val with h | h | h
  · exact absurd (hl.first k hk.lo h) (not_lt.mpr (hk.least l hl.lo hl.hi))
  · exact Fin.ext h
  · exact absurd (hk.first l hl.lo h) (not_lt.mpr (hl.least k hk.lo hk.hi))

/-- Two neighbouring ranges: the later range's first least index wins where its value is strictly less. -/
theorem FirstOn.join {N : ℕ} {f : Fin N → EReal} {a b c : ℕ} {k l : Fin N} (hk : FirstOn f a b k) (hl : FirstOn f b c l) :
    FirstOn f a c (if f l < f k then l else k) := by
  have hkl := hk.lo; have hkh := hk.hi; have hll := hl.lo; have hlh := hl.hi
  split_ifs with h
  · refine ⟨by omega, hlh, fun j ha hc => ?_, fun j ha hj => ?_⟩
    · rcases lt_or_ge j.val b with hb | hb
      · exact h.le.trans (hk.least j ha hb)
      · exact hl.least j hb hc
    · rcases lt_or_ge j.val b with hb | hb
      · exact h.trans_le (hk.least j ha hb)
      · exact hl.first j hb hj
  · refine ⟨hkl, by omega, fun j ha hc => ?_, fun j ha hj => hk.first j ha hj⟩
    rcases lt_or_ge j.val b with hb | hb
    · exact hk.least j ha hb
    · exact (not_lt.mp h).trans (hl.least j hb hc)

/-- Every family over a nonempty range of indices has a first least one. -/
theorem exists_firstOn {n : ℕ} (g : Fin n → EReal) (hn : 0 < n) : ∃ k, FirstOn g 0 n k := by
  classical
  obtain ⟨m, -, hm⟩ := Finset.exists_min_image Finset.univ g ⟨⟨0, hn⟩, Finset.mem_univ _⟩
  have hex : ∃ i : ℕ, ∃ h : i < n, g ⟨i, h⟩ = g m := ⟨m.val, m.isLt, rfl⟩
  obtain ⟨hlt, heq⟩ := Nat.find_spec hex
  refine ⟨⟨Nat.find hex, hlt⟩, Nat.zero_le _, hlt, fun j _ _ => (le_of_eq heq).trans (hm j (Finset.mem_univ _)), fun j _ hj => ?_⟩
  rcases lt_or_eq_of_le (hm j (Finset.mem_univ _)) with h | h
  · rw [heq]; exact h
  · exact absurd ⟨j.isLt, h.symm⟩ (Nat.find_min hex hj)

/-- The minimum of a family, folded from the greatest value, is its value at the first least index. -/
theorem fold_min_eq {n : ℕ} {g : Fin n → EReal} {k : Fin n} (hk : FirstOn g 0 n k) :
    Finset.univ.fold min (⊤ : EReal) g = g k := by
  refine le_antisymm ?_ ?_
  · exact (Finset.fold_min_le _).mpr (Or.inr ⟨k, Finset.mem_univ _, le_rfl⟩)
  · exact (Finset.le_fold_min _).mpr ⟨le_top, fun j _ => hk.least j (Nat.zero_le _) j.isLt⟩

/-- The signed minimum of words folded over a set is at most its start and every word, and is one of them. -/
theorem fold_minsi_spec {ι : Type} [DecidableEq ι] (s : Finset ι) (g : ι → BitVec 32) (z : BitVec 32) :
    (s.fold IntOp.minsi z g = z ∨ ∃ i ∈ s, s.fold IntOp.minsi z g = g i)
      ∧ (s.fold IntOp.minsi z g).toInt ≤ z.toInt ∧ ∀ i ∈ s, (s.fold IntOp.minsi z g).toInt ≤ (g i).toInt := by
  induction s using Finset.induction_on with
  | empty => simp
  | insert a s ha ih =>
    obtain ⟨h1, h2, h3⟩ := ih
    rw [Finset.fold_insert ha]
    have hm := Idealize.ShloMosaic.SortNet.toInt_minsi (g a) (s.fold IntOp.minsi z g)
    refine ⟨?_, ?_, ?_⟩
    · rcases min_choice (g a).toInt (s.fold IntOp.minsi z g).toInt with h | h
      · exact Or.inr ⟨a, Finset.mem_insert_self _ _, BitVec.eq_of_toInt_eq (hm.trans h)⟩
      · have e := BitVec.eq_of_toInt_eq (hm.trans h)
        rcases h1 with h1 | ⟨i, hi, h1⟩
        · exact Or.inl (e.trans h1)
        · exact Or.inr ⟨i, Finset.mem_insert_of_mem hi, e.trans h1⟩
    · rw [hm]; exact (min_le_right _ _).trans h2
    · intro i hi
      rw [hm]
      rcases Finset.mem_insert.mp hi with rfl | hi
      · exact min_le_left _ _
      · exact (min_le_right _ _).trans (h3 i hi)

/-- A number below `2 ^ 31` read back, signed, from its 32-bit word. -/
theorem toInt_ofNat32 {n : ℕ} (h : n < 2 ^ 31) : (BitVec.ofNat 32 n).toInt = (n : ℤ) := by
  rw [BitVec.toInt_eq_toNat_cond, BitVec.toNat_ofNat]; omega

/-- The least position at which a family takes its minimum, as a program computes it: positions where the value is
    not the minimum are replaced by `2 ^ 30`, and the signed minimum is folded from the greatest word. -/
theorem fold_position_eq {n : ℕ} (hn : n ≤ 2 ^ 20) {g : Fin n → EReal} {k : Fin n} (hk : FirstOn g 0 n k) (w : EReal) (hw : w = g k) :
    (Finset.univ.fold IntOp.minsi (2147483647#32) fun q : Fin n => if g q = w then BitVec.ofNat 32 q.val else 1073741824#32)
      = BitVec.ofNat 32 k.val := by
  subst hw
  obtain ⟨h1, h2, h3⟩ := fold_minsi_spec Finset.univ (fun q : Fin n => if g q = g k then BitVec.ofNat 32 q.val else 1073741824#32) 2147483647#32
  have hk' := k.isLt
  have hle := h3 k (Finset.mem_univ _)
  rw [if_pos rfl, toInt_ofNat32 (by omega)] at hle
  rcases h1 with h1 | ⟨i, -, h1⟩
  · rw [h1] at hle
    have : (2147483647#32 : BitVec 32).toInt = 2147483647 := by decide
    omega
  · rw [h1] at hle ⊢
    have hi' := i.isLt
    split_ifs at hle ⊢ with hg
    · rw [toInt_ofNat32 (by omega)] at hle
      rcases lt_or_eq_of_le (show i.val ≤ k.val by omega) with h | h
      · exact absurd hg (ne_of_gt (hk.first i (Nat.zero_le _) h))
      · rw [h]
    · have : (1073741824#32 : BitVec 32).toInt = 1073741824 := by decide
      omega

/-- The order a (value, position) fold takes its minimum in: by value, then by position. -/
def LexLe (p q : EReal × BitVec 32) : Prop := p.1 < q.1 ∨ (p.1 = q.1 ∧ p.2.toInt ≤ q.2.toInt)

theorem LexLe.refl (p : EReal × BitVec 32) : LexLe p p := Or.inr ⟨rfl, le_rfl⟩

theorem LexLe.trans {p q r : EReal × BitVec 32} (h : LexLe p q) (h' : LexLe q r) : LexLe p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A fold whose step keeps the lesser of two pairs ends with the least of the start and the list. -/
theorem foldl_lex (step : EReal × BitVec 32 → EReal × BitVec 32 → EReal × BitVec 32)
    (hstep : ∀ p q, (step p q = p ∨ step p q = q) ∧ LexLe (step p q) p ∧ LexLe (step p q) q) (l : List (EReal × BitVec 32)) :
    ∀ z, (l.foldl step z = z ∨ l.foldl step z ∈ l) ∧ LexLe (l.foldl step z) z ∧ ∀ p ∈ l, LexLe (l.foldl step z) p := by
  induction l with
  | nil => exact fun z => ⟨Or.inl rfl, LexLe.refl _, by simp⟩
  | cons a l ih =>
    intro z
    obtain ⟨h1, h2, h3⟩ := ih (step z a)
    obtain ⟨s1, s2, s3⟩ := hstep z a
    rw [List.foldl_cons]
    refine ⟨?_, h2.trans s2, fun p hp => ?_⟩
    · rcases h1 with h1 | h1
      · rcases s1 with s1 | s1
        · exact Or.inl (h1.trans s1)
        · exact Or.inr (by rw [h1, s1]; exact List.mem_cons_self)
      · exact Or.inr (List.mem_cons_of_mem _ h1)
    · rcases List.mem_cons.mp hp with rfl | hp
      · exact h2.trans s3
      · exact h3 p hp

/-- A pair that is the least of the start (greatest value, position 0) and of a family's (value, position) pairs is
    the family's first least index and its value. -/
theorem pair_eq {n : ℕ} (hn : n ≤ 2 ^ 20) {g : Fin n → EReal} {k : Fin n} (hk : FirstOn g 0 n k) (r : EReal × BitVec 32)
    (h1 : r = (⊤, 0#32) ∨ ∃ q : Fin n, r = (g q, BitVec.ofNat 32 q.val))
    (h3 : ∀ q : Fin n, LexLe r (g q, BitVec.ofNat 32 q.val)) : r = (g k, BitVec.ofNat 32 k.val) := by
  have hk' := k.isLt
  rcases h1 with rfl | ⟨q, rfl⟩
  · rcases h3 k with h | ⟨h, hi⟩
    · exact absurd h not_top_lt
    · have hz : k.val = 0 := by
        by_contra hne
        have h0 := hk.first ⟨0, by omega⟩ (Nat.zero_le _) (Nat.pos_of_ne_zero hne)
        exact absurd ((show (⊤ : EReal) = g k from h) ▸ h0) not_top_lt
      rw [hz]; exact Prod.ext h rfl
  · have hq' := q.isLt
    rcases h3 k with h | ⟨h, hi⟩
    · exact absurd h (not_lt.mpr (hk.least q (Nat.zero_le _) q.isLt))
    · dsimp only at h hi
      rw [toInt_ofNat32 (by omega), toInt_ofNat32 (by omega)] at hi
      rcases lt_or_eq_of_le (show q.val ≤ k.val by omega) with hlt | heq
      · exact absurd h (ne_of_gt (hk.first q (Nat.zero_le _) hlt))
      · rw [h, heq]

end Cert.FirstMin

end
-- ==== Proof.Rows.lean ====
/- What the distance kernel's body computes on one row of a block, over the extended reals: the word it stores is the
   first of the 8192 columns at which the row's distance is least, and the value it sums is that least distance. -/
module

public import proofs.«01_k».proof.Proof.Gen.KernelIdeal.Skeleton
public import proofs.«01_k».proof.Proof.FirstMin
public import Idealize.ShloMosaic.Lib.Pointwise

@[expose] public section

set_option maxRecDepth 16384

noncomputable section

namespace Cert.KernelIdeal.Rows

open Cert.KernelIdeal Cert.KernelIdeal.Gen Cert.FirstMin Idealize.ShloMosaic Idealize.ShloMosaic.TcCoe Idealize.SL.Sem

/-- The distance of row `r` to column `q` of one chunk of 2048 columns: the row's norm, its product with the
    column, the column's norm. -/
def chunk (x : FVec Ideal S1024x64 .f32) (n : FVec Ideal S1024x1 .f32) (w : FVec Ideal S2048x64 .f32) (b : FVec Ideal S1x2048 .f32)
    (r : Fin 1024) (q : Fin 2048) : EReal :=
  n (ix2 r 0) + ∑ d : Fin 64, x (ix2 r d) * w (ix2 q d) + b (ix2 0 q)

theorem ofBits_top : Ideal.ofBits .f32 0x7F800000#32 = ⊤ := by simp [Ideal.ofBits, Ideal.ieee]

/-- The table's value of the named constant. -/
theorem named_beta : (Named.named (F := Ideal) κ "beta_mean" (φ := .f32) 0x34E38E39#32) = ((2359296⁻¹ : ℝ) : EReal) :=
  IdealRules.named_const.ideal_named_scalar _ _ _ _ rfl

section Chunks

variable (x : FVec Ideal S1024x64 .f32) (n : FVec Ideal S1024x1 .f32) (w : FVec Ideal S2048x64 .f32) (b : FVec Ideal S1x2048 .f32)
  (r : Fin 1024) (k : Fin 2048)

theorem dist0 (q : Fin 2048) : k0_pay9 (F := Ideal) x n w b (ix2 r q) = chunk x n w b r q := by
  pointwise [k0_pay9, k0_pay8, k0_pay7, chunk]

theorem dist1 (q : Fin 2048) : k0_pay13 (F := Ideal) x n w b (ix2 r q) = chunk x n w b r q := by
  pointwise [k0_pay13, k0_pay8, k0_pay7, chunk]

theorem dist2 (q : Fin 2048) : k0_pay18 (F := Ideal) (k0_pay7 (F := Ideal) x) (k0_pay8 (F := Ideal) n) w b (ix2 r q) = chunk x n w b r q := by
  pointwise [k0_pay18, k0_pay8, k0_pay7, chunk]

theorem dist3 (q : Fin 2048) : k0_pay1 (F := Ideal) (k0_pay24 (F := Ideal) b) (k0_pay25 (F := Ideal) (k0_pay7 (F := Ideal) x) (k0_pay8 (F := Ideal) n) w) (ix2 r q) = chunk x n w b r q := by
  pointwise [k0_pay1, k0_pay24, k0_pay25, k0_pay8, k0_pay7, chunk]

variable {x n w b r k}

theorem min0 (h : FirstOn (chunk x n w b r) 0 2048 k) : k0_pay10 (F := Ideal) x n w b (ix2 r 0) = chunk x n w b r k := by
  pointwise [k0_pay10]
  simp only [dist0, ofBits_top]
  exact fold_min_eq h

theorem min1 (h : FirstOn (chunk x n w b r) 0 2048 k) : k0_pay14 (F := Ideal) x n w b (ix2 r 0) = chunk x n w b r k := by
  pointwise [k0_pay14]
  simp only [dist1, ofBits_top]
  exact fold_min_eq h

theorem min2 (h : FirstOn (chunk x n w b r) 0 2048 k) : k0_pay19 (F := Ideal) (k0_pay7 (F := Ideal) x) (k0_pay8 (F := Ideal) n) w b (ix2 r 0) = chunk x n w b r k := by
  pointwise [k0_pay19]
  simp only [dist2, ofBits_top]
  exact fold_min_eq h

theorem min3 (h : FirstOn (chunk x n w b r) 0 2048 k) :
    k0_pay2 (F := Ideal) (k0_pay24 (F := Ideal) b) (k0_pay25 (F := Ideal) (k0_pay7 (F := Ideal) x) (k0_pay8 (F := Ideal) n) w) (ix2 r 0) = chunk x n w b r k := by
  pointwise [k0_pay2]
  simp only [dist3, ofBits_top]
  exact fold_min_eq h

end Chunks

/-- A chunk's first least column is the whole row's over the chunk's columns. -/
theorem lift {f : Fin 8192 → EReal} (a : ℕ) (ha : a + 2048 ≤ 8192) {g : Fin 2048 → EReal}
    (hg : ∀ q : Fin 2048, g q = f ⟨a + q.val, by omega⟩) {k : Fin 2048} (h : FirstOn g 0 2048 k) :
    FirstOn f a (a + 2048) ⟨a + k.val, by omega⟩ := by
  have hk := k.isLt
  refine ⟨by simp, by simp, fun j h1 h2 => ?_, fun j h1 h2 => ?_⟩
  · have := h.least ⟨j.val - a, by omega⟩ (Nat.zero_le _) (by dsimp only; omega)
    rw [hg, hg] at this
    convert this using 3; dsimp only; omega
  · have h2' : j.val < a + k.val := h2
    have := h.first ⟨j.val - a, by omega⟩ (Nat.zero_le _) (by dsimp only; omega)
    rw [hg, hg] at this
    convert this using 3; dsimp only; omega

section Payloads

variable (r : Fin 1024)

theorem pay11_apply (x : FVec Ideal S1024x64 .f32) (n : FVec Ideal S1024x1 .f32) (w : FVec Ideal S2048x64 .f32) (b : FVec Ideal S1x2048 .f32) :
    k0_pay11 (F := Ideal) x n w b (ix2 r 0) = IntOp.addi (Finset.univ.fold IntOp.minsi (2147483647#32)
      fun q : Fin 2048 => if k0_pay9 (F := Ideal) x n w b (ix2 r q) = k0_pay10 (F := Ideal) x n w b (ix2 r 0) then BitVec.ofNat 32 q.val
        else 1073741824#32) 0#32 := by
  pointwise [k0_pay11]

theorem pay12_apply (x : FVec Ideal S1024x64 .f32) (n : FVec Ideal S1024x1 .f32) (w : FVec Ideal S2048x64 .f32) (b : FVec Ideal S1x2048 .f32) :
    k0_pay12 (F := Ideal) x n w b (ix2 r 0) = k0_pay10 (F := Ideal) x n w b (ix2 r 0) := by
  pointwise [k0_pay12]

theorem pay15_select (x : FVec Ideal S1024x64 .f32) (n : FVec Ideal S1024x1 .f32) (w : FVec Ideal S2048x64 .f32) (b : FVec Ideal S1x2048 .f32)
    (q : Fin 2048) (c d : BitVec 32) : Scalar.select (k0_pay15 (F := Ideal) x n w b (ix2 r q)) c d
      = if k0_pay13 (F := Ideal) x n w b (ix2 r q) = k0_pay14 (F := Ideal) x n w b (ix2 r 0) then c else d := by
  pointwise [k0_pay15]

theorem pay17_apply (v v' : FVec Ideal S1024x1 .f32) : k0_pay17 (F := Ideal) v v' (ix2 r 0)
    = if v' (ix2 r 0) < v (ix2 r 0) then v' (ix2 r 0) else v (ix2 r 0) := by
  pointwise [k0_pay17, k0_pay16]

theorem pay21_apply (y : FVec Ideal S1024x64 .f32) (l : FVec Ideal S1024x1 .f32) (p : IVec S1024x1 32) (v v' : FVec Ideal S1024x1 .f32)
    (s : IVec S1024x2048 1) (w : FVec Ideal S2048x64 .f32) (b : FVec Ideal S1x2048 .f32) :
    k0_pay21 (F := Ideal) y l (iota .tc S1024x2048 32 [1] iota_S1024x2048_d1_w32) p v v' s 1073741824#32 w b (ix2 r 0)
      = if k0_pay19 (F := Ideal) y l w b (ix2 r 0) < k0_pay17 (F := Ideal) v v' (ix2 r 0)
        then IntOp.addi (Finset.univ.fold IntOp.minsi (2147483647#32) fun q : Fin 2048 =>
            if k0_pay18 (F := Ideal) y l w b (ix2 r q) = k0_pay19 (F := Ideal) y l w b (ix2 r 0)
            then BitVec.ofNat 32 q.val else 1073741824#32) 4096#32
        else if v' (ix2 r 0) < v (ix2 r 0)
          then IntOp.addi (Finset.univ.fold IntOp.minsi (2147483647#32) fun q : Fin 2048 =>
              Scalar.select (s (ix2 r q)) (BitVec.ofNat 32 q.val) 1073741824#32) 2048#32
          else p (ix2 r 0) := by
  pointwise [k0_pay21, k0_pay20, k0_pay16]

theorem pay4_apply (p : IVec S1024x1 32) (v : FVec Ideal S1024x1 .f32) (b : FVec Ideal S1x2048 .f32) (u : FVec Ideal S1024x2048 .f32) :
    k0_pay4 (F := Ideal) (iota .tc S1024x2048 32 [1] iota_S1024x2048_d1_w32) p v b u (ix2 r 0)
      = if k0_pay2 (F := Ideal) b u (ix2 r 0) < v (ix2 r 0)
        then IntOp.addi (Finset.univ.fold IntOp.minsi (2147483647#32) fun q : Fin 2048 =>
            if k0_pay1 (F := Ideal) b u (ix2 r q) = k0_pay2 (F := Ideal) b u (ix2 r 0) then BitVec.ofNat 32 q.val else 1073741824#32) 6144#32
        else p (ix2 r 0) := by
  pointwise [k0_pay4, k0_pay3]

theorem pay23_apply (y : FVec Ideal S1024x64 .f32) (l v v' : FVec Ideal S1024x1 .f32) (w : FVec Ideal S2048x64 .f32) (b : FVec Ideal S1x2048 .f32) :
    k0_pay23 (F := Ideal) y l v v' w b (ix2 r 0)
      = if k0_pay19 (F := Ideal) y l w b (ix2 r 0) < k0_pay17 (F := Ideal) v v' (ix2 r 0)
        then k0_pay19 (F := Ideal) y l w b (ix2 r 0) else k0_pay17 (F := Ideal) v v' (ix2 r 0) := by
  pointwise [k0_pay23, k0_pay20]

theorem pay22_apply (y : FVec Ideal S1024x64 .f32) (l z v v' : FVec Ideal S1024x1 .f32) (w : FVec Ideal S2048x64 .f32) (b : FVec Ideal S1x2048 .f32) :
    k0_pay22 (F := Ideal) y l z v v' w b (ix2 r 0)
      = if k0_pay19 (F := Ideal) y l w b (ix2 r 0) < k0_pay17 (F := Ideal) v v' (ix2 r 0)
        then k0_pay19 (F := Ideal) y l w b (ix2 r 0) else if v' (ix2 r 0) < v (ix2 r 0) then v' (ix2 r 0) else z (ix2 r 0) := by
  pointwise [k0_pay22, k0_pay20, k0_pay16]

/-- The value of one row that the body sums: the lesser of the fourth chunk's and what was carried, the carried one
    taken before its rounding. -/
def summed (z v : FVec Ideal S1024x1 .f32) (b : FVec Ideal S1x2048 .f32) (u : FVec Ideal S1024x2048 .f32) (r : Fin 1024) : EReal :=
  if k0_pay2 (F := Ideal) b u (ix2 r 0) < v (ix2 r 0) then k0_pay2 (F := Ideal) b u (ix2 r 0) else z (ix2 r 0)

theorem pay6_apply (z v : FVec Ideal S1024x1 .f32) (b : FVec Ideal S1x2048 .f32) (u : FVec Ideal S1024x2048 .f32) (s : FVec Ideal S1x1 .f32) :
    k0_pay6 (F := Ideal) z v b u s (ix2 0 0) = s (ix2 0 0) + (∑ r : Fin 1024, summed z v b u r) * ((2359296⁻¹ : ℝ) : EReal) := by
  rw [← named_beta]
  pointwise [k0_pay6, k0_pay3, summed]
  simp only [Fin.sum_univ_one, Fin.isValue]

end Payloads

/-- A chunk's position word moved to its place in the row. -/
theorem addi_ofNat (a k : ℕ) : IntOp.addi (BitVec.ofNat 32 k) (BitVec.ofNat 32 a) = BitVec.ofNat 32 (a + k) := by
  show BitVec.ofNat 32 k + BitVec.ofNat 32 a = _
  rw [← BitVec.ofNat_add, Nat.add_comm]

/-- The position word of a chunk: where a family `d` of values and its minimum `m` are read as `g` and `g k`. -/
theorem position {d : Fin 2048 → EReal} {m : EReal} {g : Fin 2048 → EReal} {k : Fin 2048} (h : FirstOn g 0 2048 k) (hd : ∀ q, d q = g q)
    (hm : m = g k) (a : ℕ) :
    IntOp.addi (Finset.univ.fold IntOp.minsi (2147483647#32) fun q : Fin 2048 => if d q = m then BitVec.ofNat 32 q.val else 1073741824#32)
      (BitVec.ofNat 32 a) = BitVec.ofNat 32 (a + k.val) := by
  obtain rfl : d = g := funext hd
  rw [fold_position_eq (by norm_num) h m hm, addi_ofNat]

section Row

variable (x : FVec Ideal S1024x64 .f32) (n : FVec Ideal S1024x1 .f32)
  (w0 w1 w2 w3 : FVec Ideal S2048x64 .f32) (b0 b1 b2 b3 : FVec Ideal S1x2048 .f32)

/-- The column the body has chosen after three chunks. -/
abbrev idx3 : IVec S1024x1 32 :=
  k0_pay21 (F := Ideal) (k0_pay7 (F := Ideal) x) (k0_pay8 (F := Ideal) n) (iota .tc S1024x2048 32 [1] iota_S1024x2048_d1_w32)
    (k0_pay11 (F := Ideal) x n w0 b0) (k0_pay12 (F := Ideal) x n w0 b0) (k0_pay14 (F := Ideal) x n w1 b1) (k0_pay15 (F := Ideal) x n w1 b1)
    1073741824#32 w2 b2

/-- The least value after three chunks, as it is carried. -/
abbrev val3 : FVec Ideal S1024x1 .f32 :=
  k0_pay23 (F := Ideal) (k0_pay7 (F := Ideal) x) (k0_pay8 (F := Ideal) n) (k0_pay12 (F := Ideal) x n w0 b0) (k0_pay14 (F := Ideal) x n w1 b1) w2 b2

/-- The least value after three chunks, before its last rounding. -/
abbrev val3' : FVec Ideal S1024x1 .f32 :=
  k0_pay22 (F := Ideal) (k0_pay7 (F := Ideal) x) (k0_pay8 (F := Ideal) n) (k0_pay10 (F := Ideal) x n w0 b0) (k0_pay12 (F := Ideal) x n w0 b0)
    (k0_pay14 (F := Ideal) x n w1 b1) w2 b2

/-- The first three chunks' sums with the fourth's product. -/
abbrev part3 : FVec Ideal S1024x2048 .f32 := k0_pay25 (F := Ideal) (k0_pay7 (F := Ideal) x) (k0_pay8 (F := Ideal) n) w3

/-- The word stored for each row. -/
abbrev idx4 : IVec S1024x1 32 :=
  k0_pay4 (F := Ideal) (iota .tc S1024x2048 32 [1] iota_S1024x2048_d1_w32) (idx3 x n w0 w1 w2 b0 b1 b2) (val3 x n w0 w1 w2 b0 b1 b2)
    (k0_pay24 (F := Ideal) b3) (part3 x n w3)

/-- The running sum after a block. -/
abbrev sum4 (s : FVec Ideal S1x1 .f32) : FVec Ideal S1x1 .f32 :=
  k0_pay6 (F := Ideal) (val3' x n w0 w1 w2 b0 b1 b2) (val3 x n w0 w1 w2 b0 b1 b2) (k0_pay24 (F := Ideal) b3) (part3 x n w3) s

/-- The value of row `r` that the body sums. -/
abbrev val4 (r : Fin 1024) : EReal :=
  summed (val3' x n w0 w1 w2 b0 b1 b2) (val3 x n w0 w1 w2 b0 b1 b2) (k0_pay24 (F := Ideal) b3) (part3 x n w3) r

/-- ONE ROW: where `f` lists the row's 8192 distances, chunk by chunk, the stored word is the first column at which
    `f` is least, and the summed value is `f` there. -/
theorem row (r : Fin 1024) (f : Fin 8192 → EReal) (f0 : ∀ q : Fin 2048, chunk x n w0 b0 r q = f ⟨0 + q.val, by omega⟩)
    (f1 : ∀ q : Fin 2048, chunk x n w1 b1 r q = f ⟨2048 + q.val, by omega⟩) (f2 : ∀ q : Fin 2048, chunk x n w2 b2 r q = f ⟨4096 + q.val, by omega⟩)
    (f3 : ∀ q : Fin 2048, chunk x n w3 b3 r q = f ⟨6144 + q.val, by omega⟩) :
    ∃ k : Fin 8192, FirstOn f 0 8192 k ∧ idx4 x n w0 w1 w2 w3 b0 b1 b2 b3 (ix2 r 0) = BitVec.ofNat 32 k.val
      ∧ val4 x n w0 w1 w2 w3 b0 b1 b2 b3 r = f k := by
  obtain ⟨k0, h0⟩ := exists_firstOn (chunk x n w0 b0 r) (by norm_num)
  obtain ⟨k1, h1⟩ := exists_firstOn (chunk x n w1 b1 r) (by norm_num)
  obtain ⟨k2, h2⟩ := exists_firstOn (chunk x n w2 b2 r) (by norm_num)
  obtain ⟨k3, h3⟩ := exists_firstOn (chunk x n w3 b3 r) (by norm_num)
  have l0 := lift (f := f) 0 (by norm_num) f0 h0
  have l1 := lift (f := f) 2048 (by norm_num) f1 h1
  have l2 := lift (f := f) 4096 (by norm_num) f2 h2
  have l3 := lift (f := f) 6144 (by norm_num) f3 h3
  have m0 := (min0 h0).trans (f0 k0)
  have m1 := (min1 h1).trans (f1 k1)
  have m2 := (min2 h2).trans (f2 k2)
  have m3 : k0_pay2 (F := Ideal) (k0_pay24 (F := Ideal) b3) (part3 x n w3) (ix2 r 0) = _ := (min3 h3).trans (f3 k3)
  have p0 := (pay11_apply r x n w0 b0).trans (position h0 (dist0 x n w0 b0 r) (min0 h0) 0)
  have p2 := position h2 (dist2 x n w2 b2 r) (min2 h2) 4096
  have p3 := position h3 (dist3 x n w3 b3 r) (min3 h3) 6144
  have p1 := position h1 (dist1 x n w1 b1 r) (min1 h1) 2048
  have hv1 := pay17_apply r (k0_pay12 (F := Ideal) x n w0 b0) (k0_pay14 (F := Ideal) x n w1 b1)
  rw [pay12_apply, m0, m1] at hv1
  have hv2 : val3 x n w0 w1 w2 b0 b1 b2 (ix2 r 0) = _ := pay23_apply r (k0_pay7 (F := Ideal) x) (k0_pay8 (F := Ideal) n) (k0_pay12 (F := Ideal) x n w0 b0) (k0_pay14 (F := Ideal) x n w1 b1) w2 b2
  rw [hv1, m2] at hv2
  have hz2 : val3' x n w0 w1 w2 b0 b1 b2 (ix2 r 0) = _ := pay22_apply r (k0_pay7 (F := Ideal) x) (k0_pay8 (F := Ideal) n) (k0_pay10 (F := Ideal) x n w0 b0) (k0_pay12 (F := Ideal) x n w0 b0)
    (k0_pay14 (F := Ideal) x n w1 b1) w2 b2
  rw [hv1, m2, pay12_apply, m0, m1] at hz2
  have hi2 : idx3 x n w0 w1 w2 b0 b1 b2 (ix2 r 0) = _ := pay21_apply r (k0_pay7 (F := Ideal) x) (k0_pay8 (F := Ideal) n) (k0_pay11 (F := Ideal) x n w0 b0) (k0_pay12 (F := Ideal) x n w0 b0)
    (k0_pay14 (F := Ideal) x n w1 b1) (k0_pay15 (F := Ideal) x n w1 b1) w2 b2
  simp only [pay15_select] at hi2
  rw [p2, p1, p0, hv1, m2, pay12_apply, m0, m1] at hi2
  have hi3 := pay4_apply r (idx3 x n w0 w1 w2 b0 b1 b2) (val3 x n w0 w1 w2 b0 b1 b2) (k0_pay24 (F := Ideal) b3) (part3 x n w3)
  rw [p3, hv2, hi2, m3] at hi3
  have hs : val4 x n w0 w1 w2 w3 b0 b1 b2 b3 r
      = if k0_pay2 (F := Ideal) (k0_pay24 (F := Ideal) b3) (part3 x n w3) (ix2 r 0) < val3 x n w0 w1 w2 b0 b1 b2 (ix2 r 0)
        then k0_pay2 (F := Ideal) (k0_pay24 (F := Ideal) b3) (part3 x n w3) (ix2 r 0) else val3' x n w0 w1 w2 b0 b1 b2 (ix2 r 0) := rfl
  rw [hv2, hz2, m3] at hs
  refine ⟨_, ((l0.join l1).join l2).join l3, hi3.trans ?_, hs.trans ?_⟩
  · split_ifs <;> rfl
  · split_ifs <;> rfl

/-- The same, at the column already known to be the first least one. -/
theorem row_at (r : Fin 1024) (f : Fin 8192 → EReal) (k : Fin 8192) (hk : FirstOn f 0 8192 k)
    (f0 : ∀ q : Fin 2048, chunk x n w0 b0 r q = f ⟨0 + q.val, by omega⟩)
    (f1 : ∀ q : Fin 2048, chunk x n w1 b1 r q = f ⟨2048 + q.val, by omega⟩) (f2 : ∀ q : Fin 2048, chunk x n w2 b2 r q = f ⟨4096 + q.val, by omega⟩)
    (f3 : ∀ q : Fin 2048, chunk x n w3 b3 r q = f ⟨6144 + q.val, by omega⟩) :
    idx4 x n w0 w1 w2 w3 b0 b1 b2 b3 (ix2 r 0) = BitVec.ofNat 32 k.val ∧ val4 x n w0 w1 w2 w3 b0 b1 b2 b3 r = f k := by
  obtain ⟨k', hk', h⟩ := row x n w0 w1 w2 w3 b0 b1 b2 b3 r f f0 f1 f2 f3
  obtain rfl := hk.unique hk'
  exact h

end Row

end Cert.KernelIdeal.Rows

end

end
-- ==== Proof.Value.lean ====
/- What the distance kernel leaves in its two result arrays, over the extended reals, as functions of its two arguments. -/
module

public import proofs.«01_k».proof.Proof.Gen.KernelIdeal.Value
public import proofs.«01_k».proof.Proof.Rows
public import Idealize.ShloMosaic.Lib.Pipeline.ValueKit

@[expose] public section

set_option maxRecDepth 16384

noncomputable section

namespace Cert.KernelIdeal.Arrays

open Cert.KernelIdeal Cert.KernelIdeal.Gen Cert.KernelIdeal.Rows Cert.FirstMin Idealize.ShloMosaic Idealize.ShloMosaic.TcCoe Idealize.SL.Sem
open Idealize.ShloMosaic.Pipeline (Dat)

/-- Coordinate `d` of token `n`. -/
def tok (Z : FVec Ideal S16x576x64 .f32) (n : Fin 9216) (d : Fin 64) : EReal :=
  Z (ix3 ⟨n.val / 576, by omega⟩ ⟨n.val % 576, by omega⟩ d)

/-- The kernel's distance of token `n` to codebook row `k`. -/
def kdist (Z : FVec Ideal S16x576x64 .f32) (C : FVec Ideal S8192x64 .f32) (n : Fin 9216) (k : Fin 8192) : EReal :=
  (∑ d : Fin 64, tok Z n d * tok Z n d) + ∑ d : Fin 64, tok Z n d * (Ideal.ofBits .f32 0xC0000000#32 * C (ix2 k d))
    + ∑ d : Fin 64, C (ix2 k d) * C (ix2 k d)

variable (m : (ℓ : Loc nD τ sig) → Buf (Elt Ideal) ℓ)

/-- The tokens and the codebook a device holds. -/
abbrev Z (c : Dev nD) : FVec Ideal S16x576x64 .f32 := m ((c : Thread nD τ).loc main_arg0)
abbrev C (c : Dev nD) : FVec Ideal S8192x64 .f32 := m ((c : Thread nD τ).loc main_arg1)

theorem V0 (c : Dev nD) (n : Fin 9216) (d : Fin 64) : V m c main_v0 (ix2 n d) = tok (Z m c) n d := by
  entry_read
  pointwise [tok]

theorem V3 (c : Dev nD) (n : Fin 9216) : V m c main_v3 (ix2 n 0) = ∑ d : Fin 64, tok (Z m c) n d * tok (Z m c) n d := by
  entry_read
  pointwise [tok]

theorem V8 (c : Dev nD) (k : Fin 8192) (d : Fin 64) : V m c main_v8 (ix2 k d) = Ideal.ofBits .f32 0xC0000000#32 * C m c (ix2 k d) := by
  entry_read
  pointwise

theorem V6 (c : Dev nD) (k : Fin 8192) : V m c main_v6 (ix2 0 k) = ∑ d : Fin 64, C m c (ix2 k d) * C m c (ix2 k d) := by
  entry_read
  pointwise

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ t.val < 9 :=
  (by decide +kernel : ∀ t : Fin grid0.N, _)

/-- The token at row `r` of point `t`'s block. -/
abbrev at_ (t : Fin cfg0.N) (r : Fin 1024) : Fin 9216 := ⟨t.val * 1024 + r.val, by have := (idx t).2.2.2.2.2.2; omega⟩

theorem blk0 (c : Dev nD) (t : Fin cfg0.N) (r : Fin 1024) (d : Fin 64) : iblk m c 0 t (ix2 r d) = tok (Z m c) (at_ t r) d := by
  refine Eq.trans ?_ (V0 m c (at_ t r) d)
  blk_ext [iblk, idx t]

theorem blk1 (c : Dev nD) (t : Fin cfg0.N) (r : Fin 1024) :
    iblk m c 1 t (ix2 r 0) = ∑ d : Fin 64, tok (Z m c) (at_ t r) d * tok (Z m c) (at_ t r) d := by
  refine Eq.trans ?_ (V3 m c (at_ t r))
  blk_ext [iblk, idx t]

theorem blk2 (c : Dev nD) (t : Fin cfg0.N) (k : Fin 8192) (d : Fin 64) :
    iblk m c 2 t (ix2 k d) = Ideal.ofBits .f32 0xC0000000#32 * C m c (ix2 k d) := by
  refine Eq.trans ?_ (V8 m c k d)
  blk_ext [iblk, idx t]

theorem blk3 (c : Dev nD) (t : Fin cfg0.N) (k : Fin 8192) : iblk m c 3 t (ix2 0 k) = ∑ d : Fin 64, C m c (ix2 k d) * C m c (ix2 k d) := by
  refine Eq.trans ?_ (V6 m c k)
  blk_ext [iblk, idx t]

/-- The first codebook row nearest to token `n`. -/
def nearest (Z : FVec Ideal S16x576x64 .f32) (C : FVec Ideal S8192x64 .f32) (n : Fin 9216) : Fin 8192 :=
  (exists_firstOn (kdist Z C n) (by norm_num)).choose

theorem nearest_spec (Z : FVec Ideal S16x576x64 .f32) (C : FVec Ideal S8192x64 .f32) (n : Fin 9216) :
    FirstOn (kdist Z C n) 0 8192 (nearest Z C n) := (exists_firstOn (kdist Z C n) (by norm_num)).choose_spec

/-- The distance of token `n` to its nearest codebook row. -/
def ldist (Z : FVec Ideal S16x576x64 .f32) (C : FVec Ideal S8192x64 .f32) (n : Fin 9216) : EReal := kdist Z C n (nearest Z C n)

/-- The word a point leaves at each row of its block: the row's nearest codebook row. -/
theorem point4 (c : Dev nD) (t : Fin cfg0.N) (r : Fin 1024) :
    (outsAt0 m c t.val t.isLt).1 (ix2 r 0) = BitVec.ofNat 32 (nearest (Z m c) (C m c) (at_ t r)).val := by
  by_cases h : t.val % 9 = 0
  · rw [outsAt0_A m c t h]; frame_out
    refine (row_at _ _ _ _ _ _ _ _ _ _ r _ _ (nearest_spec (Z m c) (C m c) (at_ t r)) ?_ ?_ ?_ ?_).1
    all_goals
      intro q
      pointwise [chunk, kdist]
      simp only [blk0, blk1, blk2, blk3]
  · rw [outsAt0_B m c t h]; frame_out
    refine (row_at _ _ _ _ _ _ _ _ _ _ r _ _ (nearest_spec (Z m c) (C m c) (at_ t r)) ?_ ?_ ?_ ?_).1
    all_goals
      intro q
      pointwise [chunk, kdist]
      simp only [blk0, blk1, blk2, blk3]

/-- What one point adds to the running sum. -/
def part (c : Dev nD) (t : Fin cfg0.N) : EReal := (∑ r : Fin 1024, ldist (Z m c) (C m c) (at_ t r)) * ((2359296⁻¹ : ℝ) : EReal)

theorem pay5_apply : k0_pay5 (F := Ideal) (ix2 0 0) = 0 := by pointwise [k0_pay5]

theorem point5A (c : Dev nD) (t : Fin cfg0.N) (h : t.val % 9 = 0) : (outsAt0 m c t.val t.isLt).2 (ix2 0 0) = 0 + part m c t := by
  rw [outsAt0_A m c t h]; frame_out
  refine (pay6_apply _ _ _ _ _).trans ?_
  rw [pay5_apply, part]
  refine congrArg (fun s : EReal => 0 + s * ((2359296⁻¹ : ℝ) : EReal)) (Finset.sum_congr rfl fun r _ => ?_)
  refine (row_at _ _ _ _ _ _ _ _ _ _ r _ _ (nearest_spec (Z m c) (C m c) (at_ t r)) ?_ ?_ ?_ ?_).2
  all_goals
    intro q
    pointwise [chunk, kdist]
    simp only [blk0, blk1, blk2, blk3]

theorem point5B (c : Dev nD) (t : Fin cfg0.N) (h : ¬ t.val % 9 = 0) : (outsAt0 m c t.val t.isLt).2 (ix2 0 0)
    = (outsAt0 m c (t.val - 1) (Nat.lt_of_le_of_lt (Nat.sub_le _ _) t.isLt)).2 (ix2 0 0) + part m c t := by
  rw [outsAt0_B m c t h]; frame_out
  refine (pay6_apply _ _ _ _ _).trans ?_
  rw [part]
  refine congrArg (fun s : EReal => (outsAt0 m c (t.val - 1) (Nat.lt_of_le_of_lt (Nat.sub_le _ _) t.isLt)).2 (ix2 0 0) + s * ((2359296⁻¹ : ℝ) : EReal))
    (Finset.sum_congr rfl fun r _ => ?_)
  refine (row_at _ _ _ _ _ _ _ _ _ _ r _ _ (nearest_spec (Z m c) (C m c) (at_ t r)) ?_ ?_ ?_ ?_).2
  all_goals
    intro q
    pointwise [chunk, kdist]
    simp only [blk0, blk1, blk2, blk3]

/-- The array of codes: token `n`'s word is its nearest codebook row. -/
def codesArr (c : Dev nD) : Vec Ideal main_v9_0.ty.shape .i32 := fun j => BitVec.ofNat 32 (nearest (Z m c) (C m c) (j 0)).val

theorem codesArr_apply (c : Dev nD) (n : Fin 9216) (z : Fin 1) :
    codesArr m c (ix2 n z) = BitVec.ofNat 32 (nearest (Z m c) (C m c) n).val := rfl

/-- THE CODES: after the run, token `n`'s word is its nearest codebook row. -/
theorem codes (c : Dev nD) : (dats m 0 c).arrAt 4 (cfgs 0).N = codesArr m c := by
  refine (dats m 0 c).arrAt_eq_of_covers 4 _ (by decide +kernel) fun t _ y => ?_
  blk_simp
  rw [after0_4]
  idx_vars y
  obtain rfl : y1 = 0 := Subsingleton.elim _ _
  rw [point4]
  refine (codesArr_apply m c (at_ t y0) 0).symm.trans ?_
  blk_ext [idx t]

/-- THE LOSS: after the run, the nine points' parts summed. -/
theorem loss (c : Dev nD) : (dats m 0 c).arrAt 5 (cfgs 0).N = (fun _ => ∑ t : Fin cfg0.N, part m c t : FVec Ideal S1x1 .f32) := by
  refine (dats m 0 c).arrAt_eq_of_after_last 5 t0_8 (by decide +kernel) _ fun j => ?_
  blk_simp
  idx_vars j
  obtain rfl : j0 = 0 := Subsingleton.elim _ _
  obtain rfl : j1 = 0 := Subsingleton.elim _ _
  rw [after0_5]
  refine (Pipeline.eq_sum_fin_of_reset_step_apply_last (fun n h (_ : Unit) => (outsAt0 m c n h).2 (ix2 0 0)) 9 (fun _ => (0 : EReal))
    (fun t _ => part m c t) (fun t h _ => point5A m c t h) (fun t h _ => point5B m c t h) (le_of_eq N_0) t0_8 rfl ()).trans ?_
  exact zero_add _

end Cert.KernelIdeal.Arrays

end
-- ==== Proof.RefRun.lean ====
/- The run of the reference of the distance call: host operations only, each result a composed term of the arguments. -/
module

public import proofs.«01_k».proof.Proof.Gen.ReferenceIdeal
public import Idealize.ShloMosaic.Lib.Claim
public import Idealize.ShloMosaic.PureOps.Ideal

@[expose] public section

set_option maxRecDepth 16384

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

/-- The tokens, one per row. -/
def toks (Z : FVec F S16x576x64 .f32) : FVec F S9216x64 .f32 := shapeCast _ Z shapeCasts_S16x576x64_S9216x64

/-- Every token's distance to every codebook row. -/
def dists (z : FVec F S9216x64 .f32) (cb : FVec F S8192x64 .f32) : FVec F S9216x8192 .f32 :=
  addf
    (subf
      (broadcastInDim S9216x8192 ![0, 1] bcast_S9216x1_S9216x8192_0_1
        (broadcastInDim S9216x1 ![0] bcast_S9216_S9216x1_0
          (Host.reduceAdd (mulf z z) (constant S_ .f32 0x00000000#32) reducesTo_S9216x64_S9216_d1 h_S_)))
      (mulf (broadcastInDim S9216x8192 ![] bcast_S_S9216x8192 (constant S_ .f32 0x40000000#32))
        (Host.dotGeneral dot_S9216x64_S64x8192_S9216x8192_1_0_0_1_n_n none z (transpose S64x8192 [1, 0] cb transposes_S8192x64_S64x8192_1_0))))
    (broadcastInDim S9216x8192 ![0, 1] bcast_S1x8192_S9216x8192_0_1
      (broadcastInDim S1x8192 ![1] bcast_S8192_S1x8192_1
        (Host.reduceAdd (mulf cb cb) (constant S_ .f32 0x00000000#32) reducesTo_S8192x64_S8192_d1 h_S_)))

/-- The row numbers a take reads: a negative one counted from the end. -/
def rowsOf (k : IVec S9216 32) : IVec S9216x1 32 :=
  broadcastInDim S9216x1 ![0] bcast_S9216_S9216x1_0
    (select (cmpi .slt k (broadcastInDim S9216 ![] bcast_S_S9216 (constantI S_ 32 0#32)))
      (addi k (broadcastInDim S9216 ![] bcast_S_S9216 (constantI S_ 32 8192#32))) k)

/-- The taken rows, a row number out of range giving the fill. -/
def takeOf (cb : FVec F S8192x64 .f32) (r : IVec S9216x1 32) : FVec F S9216x64 .f32 :=
  select
    (broadcastInDim S9216x64 ![0] bcast_S9216_S9216x64_0
      (Host.reduce IntOp.andi
        (andi (cmpi .sge r (broadcastInDim S9216x1 ![] bcast_S_S9216x1 (constantI S_ 32 0#32)))
          (cmpi .sle r (broadcastInDim S9216x1 ![0, 1] bcast_S1x1_S9216x1_0_1 (broadcastInDim S1x1 ![1] bcast_S1_S1x1_1 (constantI S1 32 8191#32)))))
        (constantI S_ 1 1#1) reducesTo_S9216x1_S9216_d1 h_S_))
    (Host.gather gather_S8192x64_S9216x1_S9216x64_1_0_n_n_0_1_164 cb r)
    (broadcastInDim S9216x64 ![] bcast_S_S9216x64 (constant S_ .f32 0x7FC00000#32))

/-- A quarter of the mean square of the differences. -/
def lossOf (z q : FVec F S9216x64 .f32) : FVec F S_ .f32 :=
  mulf (constant S_ .f32 0x3E800000#32)
    (Host.divf (Host.reduceAdd (mulf (subf z q) (subf z q)) (constant S_ .f32 0x00000000#32) reducesTo_S9216x64_S_d0_1 h_S_)
      (constant S_ .f32 0x49100000#32))

/-- What the fold of pairs leaves beside the codes: the distances it found. -/
def argVal (D : FVec F S9216x8192 .f32) (p : IVec S9216x8192 32) (u : FVec F S_ .f32) (v : IVec S_ 32) : FVec F S9216 .f32 := fun j =>
  (Host.argReduce reducer_argmin_f32_i32 D p u v reducesTo_S9216x8192_S9216_d1 h_S_ j).1

/-- The codes the fold of pairs leaves. -/
def argPos (D : FVec F S9216x8192 .f32) (p : IVec S9216x8192 32) (u : FVec F S_ .f32) (v : IVec S_ 32) : IVec S9216 32 := fun j =>
  (Host.argReduce reducer_argmin_f32_i32 D p u v reducesTo_S9216x8192_S9216_d1 h_S_ j).2

/-- The reference's operations, in order, over the fold's two results as functions. -/
def opsOver (A1 : FVec F S9216x8192 .f32 → IVec S9216x8192 32 → FVec F S_ .f32 → IVec S_ 32 → FVec F S9216 .f32)
    (A2 : FVec F S9216x8192 .f32 → IVec S9216x8192 32 → FVec F S_ .f32 → IVec S_ 32 → IVec S9216 32) : List (HloOp τ sig (Elt F)) :=
  [ reshape main_arg0 main_v0 (rfl : (.f32 : EltTy) = .f32) shapeCasts_S16x576x64_S9216x64,
    binary main_v0 main_v0 main_v1 (mulf : (⟨S9216x64, .f32⟩ : BufTy).Contents (Elt F) → (⟨S9216x64, .f32⟩ : BufTy).Contents (Elt F) → (⟨S9216x64, .f32⟩ : BufTy).Contents (Elt F)),
    nullary main_cst (constant S_ .f32 0x00000000#32),
    binary main_v1 main_cst main_v2 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v2 main_v3 (broadcastInDim S9216x1 ![0] bcast_S9216_S9216x1_0 : (⟨S9216, .f32⟩ : BufTy).Contents (Elt F) → (⟨S9216x1, .f32⟩ : BufTy).Contents (Elt F)),
    unary main_arg1 main_v4 ((transpose S64x8192 [1, 0] · transposes_S8192x64_S64x8192_1_0) : (⟨S8192x64, .f32⟩ : BufTy).Contents (Elt F) → (⟨S64x8192, .f32⟩ : BufTy).Contents (Elt F)),
    binary main_v0 main_v4 main_v5 ((fun l r => Host.dotGeneral dot_S9216x64_S64x8192_S9216x8192_1_0_0_1_n_n none l r) : (⟨S9216x64, .f32⟩ : BufTy).Contents (Elt F) → (⟨S64x8192, .f32⟩ : BufTy).Contents (Elt F) → (⟨S9216x8192, .f32⟩ : BufTy).Contents (Elt F)),
    nullary main_cst_0 (constant S_ .f32 0x40000000#32),
    unary main_cst_0 main_v6 (broadcastInDim S9216x8192 ![] bcast_S_S9216x8192 : (⟨S_, .f32⟩ : BufTy).Contents (Elt F) → (⟨S9216x8192, .f32⟩ : BufTy).Contents (Elt F)),
    binary main_v6 main_v5 main_v7 (mulf : (⟨S9216x8192, .f32⟩ : BufTy).Contents (Elt F) → (⟨S9216x8192, .f32⟩ : BufTy).Contents (Elt F) → (⟨S9216x8192, .f32⟩ : BufTy).Contents (Elt F)),
    unary main_v3 main_v8 (broadcastInDim S9216x8192 ![0, 1] bcast_S9216x1_S9216x8192_0_1 : (⟨S9216x1, .f32⟩ : BufTy).Contents (Elt F) → (⟨S9216x8192, .f32⟩ : BufTy).Contents (Elt F)),
    binary main_v8 main_v7 main_v9 (subf : (⟨S9216x8192, .f32⟩ : BufTy).Contents (Elt F) → (⟨S9216x8192, .f32⟩ : BufTy).Contents (Elt F) → (⟨S9216x8192, .f32⟩ : BufTy).Contents (Elt F)),
    binary main_arg1 main_arg1 main_v10 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v10 main_cst_1 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v11 main_v12 (broadcastInDim S1x8192 ![1] bcast_S8192_S1x8192_1 : (⟨S8192, .f32⟩ : BufTy).Contents (Elt F) → (⟨S1x8192, .f32⟩ : BufTy).Contents (Elt F)),
    unary main_v12 main_v13 (broadcastInDim S9216x8192 ![0, 1] bcast_S1x8192_S9216x8192_0_1 : (⟨S1x8192, .f32⟩ : BufTy).Contents (Elt F) → (⟨S9216x8192, .f32⟩ : BufTy).Contents (Elt F)),
    binary main_v9 main_v13 main_v14 (addf : (⟨S9216x8192, .f32⟩ : BufTy).Contents (Elt F) → (⟨S9216x8192, .f32⟩ : BufTy).Contents (Elt F) → (⟨S9216x8192, .f32⟩ : BufTy).Contents (Elt F)),
    TRef.nullary (TRef.of (T := ⟨S9216x8192, .i32⟩) main_call0_v0) (iotaInDim S9216x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S9216x8192, .f32⟩) main_v14) (TRef.of (T := ⟨S9216x8192, .i32⟩) main_call0_v0) (TRef.of (T := ⟨S_, .f32⟩) main_call0_cst) (TRef.of (T := ⟨S_, .i32⟩) main_call0_c) (TRef.of (T := ⟨S9216, .f32⟩) main_call0_v1_0) A1,
    TRef.quaternary (TRef.of (T := ⟨S9216x8192, .f32⟩) main_v14) (TRef.of (T := ⟨S9216x8192, .i32⟩) main_call0_v0) (TRef.of (T := ⟨S_, .f32⟩) main_call0_cst) (TRef.of (T := ⟨S_, .i32⟩) main_call0_c) (TRef.of (T := ⟨S9216, .i32⟩) main_v15) A2,
    TRef.nullary (TRef.of (T := ⟨S_, .i32⟩) main_call1_c) (constantI S_ 32 0#32),
    TRef.unary (TRef.of (T := ⟨S_, .i32⟩) main_call1_c) (TRef.of (T := ⟨S9216, .i32⟩) main_call1_v0) (broadcastInDim S9216 ![] bcast_S_S9216),
    TRef.binary (TRef.of (T := ⟨S9216, .i32⟩) main_v15) (TRef.of (T := ⟨S9216, .i32⟩) main_call1_v0) (TRef.of (T := ⟨S9216, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S9216, .i32⟩) main_call1_v2) (broadcastInDim S9216 ![] bcast_S_S9216),
    TRef.binary (TRef.of (T := ⟨S9216, .i32⟩) main_v15) (TRef.of (T := ⟨S9216, .i32⟩) main_call1_v2) (TRef.of (T := ⟨S9216, .i32⟩) main_call1_v3) addi,
    TRef.ternary (TRef.of (T := ⟨S9216, .i1⟩) main_call1_v1) (TRef.of (T := ⟨S9216, .i32⟩) main_call1_v3) (TRef.of (T := ⟨S9216, .i32⟩) main_v15) (TRef.of (T := ⟨S9216, .i32⟩) main_call1_v4) select,
    TRef.unary (TRef.of (T := ⟨S9216, .i32⟩) main_call1_v4) (TRef.of (T := ⟨S9216x1, .i32⟩) main_call1_v5) (broadcastInDim S9216x1 ![0] bcast_S9216_S9216x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S9216x1, .i32⟩) main_call1_v6) (broadcastInDim S9216x1 ![] bcast_S_S9216x1),
    TRef.binary (TRef.of (T := ⟨S9216x1, .i32⟩) main_call1_v5) (TRef.of (T := ⟨S9216x1, .i32⟩) main_call1_v6) (TRef.of (T := ⟨S9216x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S9216x1, .i32⟩) main_call1_v9) (broadcastInDim S9216x1 ![0, 1] bcast_S1x1_S9216x1_0_1),
    TRef.binary (TRef.of (T := ⟨S9216x1, .i32⟩) main_call1_v5) (TRef.of (T := ⟨S9216x1, .i32⟩) main_call1_v9) (TRef.of (T := ⟨S9216x1, .i1⟩) main_call1_v10) (cmpi .sle),
    TRef.binary (TRef.of (T := ⟨S9216x1, .i1⟩) main_call1_v7) (TRef.of (T := ⟨S9216x1, .i1⟩) main_call1_v10) (TRef.of (T := ⟨S9216x1, .i1⟩) main_call1_v11) andi,
    TRef.nullary (TRef.of (T := ⟨S_, .i1⟩) main_call1_c_3) (constantI S_ 1 1#1),
    TRef.binary (TRef.of (T := ⟨S9216x1, .i1⟩) main_call1_v11) (TRef.of (T := ⟨S_, .i1⟩) main_call1_c_3) (TRef.of (T := ⟨S9216, .i1⟩) main_call1_v12) (fun x v => Host.reduce IntOp.andi x v reducesTo_S9216x1_S9216_d1 h_S_),
    TRef.binary (TRef.of (T := ⟨S8192x64, .f32⟩) main_arg1) (TRef.of (T := ⟨S9216x1, .i32⟩) main_call1_v5) (TRef.of (T := ⟨S9216x64, .f32⟩) main_call1_v13) (fun x i => Host.gather gather_S8192x64_S9216x1_S9216x64_1_0_n_n_0_1_164 x i),
    TRef.unary (TRef.of (T := ⟨S9216, .i1⟩) main_call1_v12) (TRef.of (T := ⟨S9216x64, .i1⟩) main_call1_v14) (broadcastInDim S9216x64 ![0] bcast_S9216_S9216x64_0),
    TRef.nullary (TRef.of (T := ⟨S_, .f32⟩) main_call1_cst) (constant S_ .f32 0x7FC00000#32),
    TRef.unary (TRef.of (T := ⟨S_, .f32⟩) main_call1_cst) (TRef.of (T := ⟨S9216x64, .f32⟩) main_call1_v15) (broadcastInDim S9216x64 ![] bcast_S_S9216x64),
    TRef.ternary (TRef.of (T := ⟨S9216x64, .i1⟩) main_call1_v14) (TRef.of (T := ⟨S9216x64, .f32⟩) main_call1_v13) (TRef.of (T := ⟨S9216x64, .f32⟩) main_call1_v15) (TRef.of (T := ⟨S9216x64, .f32⟩) main_v16) select,
    binary main_v0 main_v16 main_v17 (subf : (⟨S9216x64, .f32⟩ : BufTy).Contents (Elt F) → (⟨S9216x64, .f32⟩ : BufTy).Contents (Elt F) → (⟨S9216x64, .f32⟩ : BufTy).Contents (Elt F)),
    binary main_v17 main_v17 main_v18 (mulf : (⟨S9216x64, .f32⟩ : BufTy).Contents (Elt F) → (⟨S9216x64, .f32⟩ : BufTy).Contents (Elt F) → (⟨S9216x64, .f32⟩ : BufTy).Contents (Elt F)),
    nullary main_cst_2 (constant S_ .f32 0x00000000#32),
    binary main_v18 main_cst_2 main_v19 ((fun x v => Host.reduceAdd x v reducesTo_S9216x64_S_d0_1 h_S_) : (⟨S9216x64, .f32⟩ : BufTy).Contents (Elt F) → (⟨S_, .f32⟩ : BufTy).Contents (Elt F) → (⟨S_, .f32⟩ : BufTy).Contents (Elt F)),
    nullary main_cst_3 (constant S_ .f32 0x49100000#32),
    binary main_v19 main_cst_3 main_v20 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v20 main_v21 (mulf : (⟨S_, .f32⟩ : BufTy).Contents (Elt F) → (⟨S_, .f32⟩ : BufTy).Contents (Elt F) → (⟨S_, .f32⟩ : BufTy).Contents (Elt F)),
    reshape main_v15 main_v22 (rfl : (.i32 : EltTy) = .i32) shapeCasts_S9216_S9216x1,
    reshape main_v21 main_v23 (rfl : (.f32 : EltTy) = .f32) shapeCasts_S_S1x1 ]

/-- The program is the line of those operations. -/
theorem main_ops (c : Dev nD) : main (F := F) c = seq (opsOver argVal argPos) := rfl

theorem no_scoped_bufs : (Finset.univ.filter fun b : Ref sig .tc => b.isScoped) = ∅ := by decide
theorem no_scoped_sems : (Finset.univ.filter fun sm : SemLoc sig => sm.isScoped .tc) = ∅ := by decide

section
variable (A1 : FVec F S9216x8192 .f32 → IVec S9216x8192 32 → FVec F S_ .f32 → IVec S_ 32 → FVec F S9216 .f32)
    (A2 : FVec F S9216x8192 .f32 → IVec S9216x8192 32 → FVec F S_ .f32 → IVec S_ 32 → IVec S9216 32)
    (σ : (b : DevRef τ sig) → b.ty.Contents (Elt F))

/-- Each operation names the device's own buffers alone. -/
theorem ops_within : (opsOver A1 A2).Forall fun op => op.bufs ⊆ tcRefs τ sig := by
  simp [opsOver]

/-- The codes a line leaves before its last reshape, the fold's position function unread. -/
abbrev codesOver (Z : FVec F S16x576x64 .f32) (cb : FVec F S8192x64 .f32) : IVec S9216 32 :=
  A2 (dists (toks Z) cb) (iotaInDim S9216x8192 32 1) (constant S_ .f32 0x7F800000#32) (constantI S_ 32 0#32)

set_option maxHeartbeats 4000000 in
theorem kept0 : after (opsOver A1 A2) σ main_arg0 = σ main_arg0 := by
  simp only [opsOver, TRef.binary, TRef.nullary, TRef.ternary, TRef.quaternary, TRef.unary, TRef.toBuf, TRef.ofBuf, cast_eq]
  after_results <;> rfl

set_option maxHeartbeats 4000000 in
theorem kept1 : after (opsOver A1 A2) σ main_arg1 = σ main_arg1 := by
  simp only [opsOver, TRef.binary, TRef.nullary, TRef.ternary, TRef.quaternary, TRef.unary, TRef.toBuf, TRef.ofBuf, cast_eq]
  after_results <;> rfl

set_option maxHeartbeats 4000000 in
theorem codes_after : after (opsOver A1 A2) σ main_v22
    = shapeCast S9216x1 (codesOver A2 (σ main_arg0) (σ main_arg1)) shapeCasts_S9216_S9216x1 := by
  simp only [opsOver, TRef.binary, TRef.nullary, TRef.ternary, TRef.quaternary, TRef.unary, TRef.toBuf, TRef.ofBuf, cast_eq]
  after_results <;> rfl

set_option maxHeartbeats 4000000 in
theorem loss_after : after (opsOver A1 A2) σ main_v23
    = shapeCast S1x1 (lossOf (toks (σ main_arg0)) (takeOf (σ main_arg1) (rowsOf (codesOver A2 (σ main_arg0) (σ main_arg1))))) shapeCasts_S_S1x1 := by
  simp only [opsOver, TRef.binary, TRef.nullary, TRef.ternary, TRef.quaternary, TRef.unary, TRef.toBuf, TRef.ofBuf, cast_eq]
  after_results <;> rfl

end

/-- The reference's codes. -/
def codesRef (Z : FVec F S16x576x64 .f32) (cb : FVec F S8192x64 .f32) : IVec S9216 32 := codesOver argPos Z cb

/-- The reference's loss. -/
def lossRef (Z : FVec F S16x576x64 .f32) (cb : FVec F S8192x64 .f32) : FVec F S_ .f32 :=
  lossOf (toks Z) (takeOf cb (rowsOf (codesRef Z cb)))

/-- Every weakly fair execution of the reference ends with the codes and the loss at their terms, its arguments kept and
    every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v22)
        = shapeCast S9216x1 (codesRef (m ((c : Thread nD τ).loc main_arg0)) (m ((c : Thread nD τ).loc main_arg1))) shapeCasts_S9216_S9216x1
      ∧ r.2.mem ((c : Thread nD τ).loc main_v23)
        = shapeCast S1x1 (lossRef (m ((c : Thread nD τ).loc main_arg0)) (m ((c : Thread nD τ).loc main_arg1))) shapeCasts_S_S1x1
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono
    (fun r h => ⟨fun c => ⟨(h c main_v22).trans (codes_after argVal argPos _), (h c main_v23).trans (loss_after argVal argPos _),
        (h c main_arg0).trans (kept0 argVal argPos _), (h c main_arg1).trans (kept1 argVal argPos _)⟩,
      sem_eq_zero_of_no_sems (by decide) r.2⟩)
    (run_seq no_scoped_bufs no_scoped_sems defs main (fun _ => opsOver argVal argPos) main_ops (fun _ => ops_within argVal argPos) m ρ)

end Cert.ReferenceIdeal.Terms

end

end
-- ==== Proof.RefVal.lean ====
/- What the reference's terms are, over the extended reals. -/
module

public import proofs.«01_k».proof.Proof.RefRun
public import proofs.«01_k».proof.Proof.Rows
public import Idealize.ShloMosaic.Lib.Pointwise
public import Idealize.ShloMosaic.Lib.Routing.Ops

@[expose] public section

set_option maxRecDepth 16384

noncomputable section

namespace Cert.ReferenceIdeal.Terms

open Cert.ReferenceIdeal Cert.ReferenceIdeal.Gen Cert.FirstMin Idealize.ShloMosaic

/-- Token `n`'s coordinate `d`. -/
theorem toks_apply (Z : FVec Ideal S16x576x64 .f32) (n : Fin 9216) (d : Fin 64) :
    toks Z (ix2 n d) = Z (ix3 ⟨n.val / 576, by omega⟩ ⟨n.val % 576, by omega⟩ d) := by
  pointwise [toks]

/-- Distance of row `n` to codebook row `k`. -/
theorem dists_apply (z : FVec Ideal S9216x64 .f32) (cb : FVec Ideal S8192x64 .f32) (n : Fin 9216) (k : Fin 8192) :
    dists z cb (ix2 n k) = ∑ d : Fin 64, z (ix2 n d) * z (ix2 n d) - Ideal.ofBits .f32 0x40000000#32 * ∑ d : Fin 64, z (ix2 n d) * cb (ix2 k d)
      + ∑ d : Fin 64, cb (ix2 k d) * cb (ix2 k d) := by
  pointwise [dists]

/-- The loss, read. -/
theorem lossOf_apply (z q : FVec Ideal S9216x64 .f32) (j : S_.Idx) :
    lossOf z q j = Ideal.ofBits .f32 0x3E800000#32
      * Ideal.div (∑ n : Fin 9216, ∑ d : Fin 64, (z (ix2 n d) - q (ix2 n d)) * (z (ix2 n d) - q (ix2 n d))) (Ideal.ofBits .f32 0x49100000#32) := by
  pointwise [lossOf]

/-- A row number below 8192 is kept. -/
theorem rowsOf_apply (k : IVec S9216 32) (n : Fin 9216) (r : Fin 8192) (h : k (ix1 n) = BitVec.ofNat 32 r.val) :
    rowsOf k (ix2 n 0) = BitVec.ofNat 32 r.val := by
  pointwise [rowsOf]
  rw [h]
  have h0 : IntOp.cmpi .slt (BitVec.ofNat 32 r.val) 0#32 = 0#1 := by
    have h1 : (BitVec.ofNat 32 r.val).toInt = (r.val : ℤ) := toInt_ofNat32 (by omega)
    simp only [IntOp.cmpi, BitVec.slt, h1, BitVec.toInt_zero]
    rw [decide_eq_false (by omega)]
    rfl
  rw [h0]
  rfl

/-- A taken row in range is the codebook's row. -/
theorem takeOf_apply (cb : FVec Ideal S8192x64 .f32) (r : IVec S9216x1 32) (n : Fin 9216) (d : Fin 64) (k : Fin 8192)
    (h : r (ix2 n 0) = BitVec.ofNat 32 k.val) : takeOf cb r (ix2 n d) = cb (ix2 k d) := by
  have hk := k.isLt
  have h1 : (BitVec.ofNat 32 k.val).toInt = (k.val : ℤ) := toInt_ofNat32 (by omega)
  have hg : Host.gather gather_S8192x64_S9216x1_S9216x64_1_0_n_n_0_1_164 cb r (ix2 n d) = cb (ix2 k d) :=
    Routing.gather_row _ rfl rfl rfl rfl rfl cb r n d k h (by omega)
  pointwise [takeOf]
  rw [hg]
  have hm : (Finset.fold IntOp.andi (1#1) (fun x : Fin 1 => IntOp.andi (IntOp.cmpi CmpIPredicate.sge (r (ix2 n x)) 0#32)
      (IntOp.cmpi CmpIPredicate.sle (r (ix2 n x)) 8191#32)) Finset.univ) = 1#1 := by
    have hf : ∀ x : Fin 1, IntOp.andi (IntOp.cmpi CmpIPredicate.sge (r (ix2 n x)) 0#32)
        (IntOp.cmpi CmpIPredicate.sle (r (ix2 n x)) 8191#32) = 1#1 := fun x => by
      obtain rfl : x = 0 := Subsingleton.elim _ _
      have h2 : (8191#32).toInt = 8191 := by decide
      have hA : IntOp.cmpi .sge (r (ix2 n 0)) 0#32 = 1#1 := by
        rw [h]; simp only [IntOp.cmpi, BitVec.sle, h1, BitVec.toInt_zero]
        rw [decide_eq_true (by omega)]; rfl
      have hB : IntOp.cmpi .sle (r (ix2 n 0)) 8191#32 = 1#1 := by
        rw [h]; simp only [IntOp.cmpi, BitVec.sle, h1, h2]
        rw [decide_eq_true (by omega)]; rfl
      rw [hA, hB]; rfl
    simp only [hf]
    rfl
  rw [hm]
  rfl

/-- A comparison's bit is one or zero. -/
theorem cmpi_or (x y : BitVec 32) : IntOp.cmpi .slt x y = 1#1 ∨ IntOp.cmpi .slt x y = 0#1 := by
  by_cases h : x.slt y = true
  · exact Or.inl (by simp only [IntOp.cmpi, h]; rfl)
  · exact Or.inr (by simp only [IntOp.cmpi, Bool.not_eq_true _ ▸ h]; rfl)

/-- One step of the reference's fold keeps the lexicographically lesser pair. -/
theorem reducer_step (p q : EReal × BitVec 32) : (reducer_argmin_f32_i32 (F := Ideal) p q = p ∨ reducer_argmin_f32_i32 (F := Ideal) p q = q)
    ∧ LexLe (reducer_argmin_f32_i32 (F := Ideal) p q) p ∧ LexLe (reducer_argmin_f32_i32 (F := Ideal) p q) q := by
  obtain ⟨a, x⟩ := p
  obtain ⟨b, y⟩ := q
  have e1 : FloatOps.cmpf (F := Ideal) (φ := .f32) .une a a = 0#1 := by simp [Ideal.cmpf_def, Ideal.cmp]
  rcases lt_trichotomy a b with h | h | h
  · have e2 : FloatOps.cmpf (F := Ideal) (φ := .f32) .olt a b = 1#1 := by simp [Ideal.cmpf_def, Ideal.cmp, h]
    have e3 : FloatOps.cmpf (F := Ideal) (φ := .f32) .oeq a b = 0#1 := by simp [Ideal.cmpf_def, Ideal.cmp, h.ne]
    have : reducer_argmin_f32_i32 (F := Ideal) (a, x) (b, y) = (a, x) := by
      unfold reducer_argmin_f32_i32
      simp only [e1, e2, e3]
      rcases cmpi_or x y with h4 | h4 <;> rw [h4] <;> rfl
    rw [this]
    exact ⟨Or.inl rfl, LexLe.refl _, Or.inl h⟩
  · subst h
    have e2 : FloatOps.cmpf (F := Ideal) (φ := .f32) .olt a a = 0#1 := by simp [Ideal.cmpf_def, Ideal.cmp]
    have e3 : FloatOps.cmpf (F := Ideal) (φ := .f32) .oeq a a = 1#1 := by simp [Ideal.cmpf_def, Ideal.cmp]
    by_cases hxy : x.toInt < y.toInt
    · have e4 : IntOp.cmpi .slt x y = 1#1 := by simp only [IntOp.cmpi, BitVec.slt]; rw [decide_eq_true hxy]; rfl
      have : reducer_argmin_f32_i32 (F := Ideal) (a, x) (a, y) = (a, x) := by
        unfold reducer_argmin_f32_i32
        simp only [e1, e2, e3, e4]
        rfl
      rw [this]
      exact ⟨Or.inl rfl, LexLe.refl _, Or.inr ⟨rfl, hxy.le⟩⟩
    · have e4 : IntOp.cmpi .slt x y = 0#1 := by simp only [IntOp.cmpi, BitVec.slt]; rw [decide_eq_false hxy]; rfl
      have : reducer_argmin_f32_i32 (F := Ideal) (a, x) (a, y) = (a, y) := by
        unfold reducer_argmin_f32_i32
        simp only [e1, e2, e3, e4]
        rfl
      rw [this]
      exact ⟨Or.inr rfl, Or.inr ⟨rfl, not_lt.mp hxy⟩, LexLe.refl _⟩
  · have e2 : FloatOps.cmpf (F := Ideal) (φ := .f32) .olt a b = 0#1 := by simp [Ideal.cmpf_def, Ideal.cmp, not_lt_of_gt h]
    have e3 : FloatOps.cmpf (F := Ideal) (φ := .f32) .oeq a b = 0#1 := by simp [Ideal.cmpf_def, Ideal.cmp, h.ne']
    have : reducer_argmin_f32_i32 (F := Ideal) (a, x) (b, y) = (b, y) := by
      unfold reducer_argmin_f32_i32
      simp only [e1, e2, e3]
      rcases cmpi_or x y with h4 | h4 <;> rw [h4] <;> rfl
    rw [this]
    exact ⟨Or.inr rfl, Or.inl h, LexLe.refl _⟩

/-- The pairs a two-operand reduction reads at `j`: those of the indices dropping to `j`. -/
theorem mem_fiber_iff {s t : Shape} {axes : List (Fin s.rank)} {α β : Type} (x : s.Idx → α) (y : s.Idx → β) (h : s.ReducesTo axes t)
    (j : t.Idx) (p : α × β) : p ∈ Host.argReduceFiber x y h j ↔ ∃ i : s.Idx, h.drop i = j ∧ p = (x i, y i) := by
  unfold Host.argReduceFiber
  rw [List.mem_map]
  constructor
  · rintro ⟨t, ht, rfl⟩
    exact ⟨_, of_decide_eq_true (List.mem_filter.mp ht).2, rfl⟩
  · rintro ⟨i, hi, rfl⟩
    refine ⟨s.rowMajor i, List.mem_filter.mpr ⟨List.mem_finRange _, decide_eq_true ?_⟩, ?_⟩ <;> rw [Equiv.symm_apply_apply]
    exact hi

/-- The pair a reduction leaves at `j` is the fold over those pairs from its initial one. -/
theorem argReduce_of_foldl {s t u : Shape} {axes : List (Fin s.rank)} {β : Type} (f : EReal × β → EReal × β → EReal × β)
    (x : FVec Ideal s .f32) (y : s.Idx → β) (ix : FVec Ideal u .f32) (iy : u.Idx → β) (h : s.ReducesTo axes t) (hu : 0 < u.numel) (j : t.Idx)
    {a : EReal} {b : β} (ha : ix (Shape.Idx.first hu) = a) (hb : iy (Shape.Idx.first hu) = b) {r : EReal × β}
    (hr : ∀ L : List (EReal × β), (∀ p, p ∈ L ↔ ∃ i : s.Idx, h.drop i = j ∧ p = (x i, y i)) → L.foldl f (a, b) = r) :
    Host.argReduce f x y ix iy h hu j = r := by
  rw [Ideal.argReduce_eq_reduce2, Host.reduce2_eq_foldl_fiber, ha, hb]
  exact hr _ (mem_fiber_iff x y h j)

/-- The reference's fold over a list holding exactly a row's pairs gives the row's first least pair. -/
theorem foldl_pairs (L : List (EReal × BitVec 32)) {g : Fin 8192 → EReal} {k : Fin 8192} (hk : FirstOn g 0 8192 k)
    (hL : ∀ p, p ∈ L ↔ ∃ q : Fin 8192, p = (g q, BitVec.ofNat 32 q.val)) :
    L.foldl (reducer_argmin_f32_i32 (F := Ideal)) (⊤, 0#32) = (g k, BitVec.ofNat 32 k.val) := by
  obtain ⟨h1, -, h3⟩ := foldl_lex (reducer_argmin_f32_i32 (F := Ideal)) reducer_step L (⊤, 0#32)
  refine pair_eq (by norm_num) hk _ ?_ fun q => h3 _ ((hL _).mpr ⟨q, rfl⟩)
  rcases h1 with h1 | h1
  · exact Or.inl h1
  · exact Or.inr ((hL _).mp h1)

/-- The indices dropping to row `n` are that row's. -/
theorem drop_row (i : S9216x8192.Idx) (n : Fin 9216) : reducesTo_S9216x8192_S9216_d1.drop i = ix1 n ↔ ∃ q : Fin 8192, i = ix2 n q := by
  constructor
  · intro hd
    refine ⟨i 1, ?_⟩
    have h0 : (i 0).val = n.val := by
      rw [← Shape.ReducesTo.drop_apply_val_of_eq reducesTo_S9216x8192_S9216_d1 i 0 0, hd]
      rfl
    funext a
    match a with
    | ⟨0, _⟩ => exact Fin.ext h0
    | ⟨1, _⟩ => rfl
  · rintro ⟨q, rfl⟩
    funext a
    obtain rfl : a = 0 := Subsingleton.elim _ _
    exact Fin.ext (Shape.ReducesTo.drop_apply_val_of_eq reducesTo_S9216x8192_S9216_d1 (ix2 n q) 0 0)

theorem positions_apply (n : Fin 9216) (q : Fin 8192) : iotaInDim S9216x8192 32 1 (ix2 n q) = BitVec.ofNat 32 q.val := rfl

theorem start_apply : constant (F := Ideal) S_ .f32 0x7F800000#32 (Shape.Idx.first h_S_) = (⊤ : EReal) := Cert.KernelIdeal.Rows.ofBits_top

theorem startPos_apply : constantI S_ 32 0#32 (Shape.Idx.first h_S_) = 0#32 := rfl

theorem rowPairs (D : FVec Ideal S9216x8192 .f32) (io : IVec S9216x8192 32) (n : Fin 9216) (hio : ∀ q : Fin 8192, io (ix2 n q) = BitVec.ofNat 32 q.val)
    (p : EReal × BitVec 32) :
    (∃ i : S9216x8192.Idx, reducesTo_S9216x8192_S9216_d1.drop i = ix1 n ∧ p = (D i, io i))
      ↔ ∃ q : Fin 8192, p = (D (ix2 n q), BitVec.ofNat 32 q.val) := by
  constructor
  · rintro ⟨i, hi, rfl⟩
    obtain ⟨q, rfl⟩ := (drop_row i n).mp hi
    exact ⟨q, by rw [hio]⟩
  · rintro ⟨q, rfl⟩
    exact ⟨ix2 n q, (drop_row _ n).mpr ⟨q, rfl⟩, by rw [hio]⟩

/-- The pair the reference's reduction leaves at row `n`. -/
theorem argReduce_over (D : FVec Ideal S9216x8192 .f32) (n : Fin 9216) (k : Fin 8192) (hk : FirstOn (fun q => D (ix2 n q)) 0 8192 k)
    (io : IVec S9216x8192 32) (hio : ∀ q : Fin 8192, io (ix2 n q) = BitVec.ofNat 32 q.val)
    (c : FVec Ideal S_ .f32) (hc : c (Shape.Idx.first h_S_) = (⊤ : EReal)) (c0 : IVec S_ 32) (hc0 : c0 (Shape.Idx.first h_S_) = 0#32) :
    Host.argReduce (reducer_argmin_f32_i32 (F := Ideal)) D io c c0
      reducesTo_S9216x8192_S9216_d1 h_S_ (ix1 n) = (D (ix2 n k), BitVec.ofNat 32 k.val) :=
  argReduce_of_foldl _ D io c c0 _ _ (ix1 n) hc hc0 fun L hL => foldl_pairs L hk fun p => (hL p).trans (rowPairs D io n hio p)

/-- The second halves of a family of pairs, at an index whose pair is known. -/
theorem second {γ α β : Type} {A : γ → α × β} {f : γ → β} (hf : f = fun j => (A j).2) {j : γ} {a : α} {b : β} (h : A j = (a, b)) : f j = b := by
  rw [hf]
  exact congrArg Prod.snd h

/-- The codes are the second halves of the fold's pairs. -/
theorem argPos_eq {F : FTy → Type} [FloatOps F] (D : FVec F S9216x8192 .f32) (p : IVec S9216x8192 32) (u : FVec F S_ .f32) (v : IVec S_ 32) :
    argPos D p u v = fun j => (Host.argReduce reducer_argmin_f32_i32 D p u v reducesTo_S9216x8192_S9216_d1 h_S_ j).2 := by
  unfold argPos
  rfl

/-- The code at a row is the place of the row's first least distance. -/
theorem argPos_over (D : FVec Ideal S9216x8192 .f32) (n : Fin 9216) (k : Fin 8192) (hk : FirstOn (fun q => D (ix2 n q)) 0 8192 k)
    (io : IVec S9216x8192 32) (hio : ∀ q : Fin 8192, io (ix2 n q) = BitVec.ofNat 32 q.val)
    (c : FVec Ideal S_ .f32) (hc : c (Shape.Idx.first h_S_) = (⊤ : EReal)) (c0 : IVec S_ 32) (hc0 : c0 (Shape.Idx.first h_S_) = 0#32) : argPos D io c c0 (ix1 n) = BitVec.ofNat 32 k.val :=
  second (argPos_eq D io c c0) (argReduce_over D n k hk io hio c hc c0 hc0)

/-- THE REFERENCE'S CODES: the place of the first least distance of the row. -/
theorem codesRef_apply (Z : FVec Ideal S16x576x64 .f32) (cb : FVec Ideal S8192x64 .f32) (n : Fin 9216) (k : Fin 8192)
    (hk : FirstOn (fun q => dists (toks Z) cb (ix2 n q)) 0 8192 k) : codesRef Z cb (ix1 n) = BitVec.ofNat 32 k.val := by
  unfold codesRef
  exact argPos_over _ n k hk _ (positions_apply n) _ start_apply _ startPos_apply

/-- THE REFERENCE'S LOSS, at rows known to be the codes. -/
theorem lossRef_apply (Z : FVec Ideal S16x576x64 .f32) (cb : FVec Ideal S8192x64 .f32) (κ : Fin 9216 → Fin 8192)
    (hκ : ∀ n, codesRef Z cb (ix1 n) = BitVec.ofNat 32 (κ n).val) (j : S_.Idx) :
    lossRef Z cb j = Ideal.ofBits .f32 0x3E800000#32
      * Ideal.div (∑ n : Fin 9216, ∑ d : Fin 64, (toks Z (ix2 n d) - cb (ix2 (κ n) d)) * (toks Z (ix2 n d) - cb (ix2 (κ n) d)))
          (Ideal.ofBits .f32 0x49100000#32) := by
  unfold lossRef
  rw [lossOf_apply]
  simp only [takeOf_apply cb _ _ _ _ (rowsOf_apply _ _ _ (hκ _))]

end Cert.ReferenceIdeal.Terms

end

end
-- ==== Proof.Agree.lean ====
/- With every entry of both arrays a real number, the distance kernel and its reference leave the same codes and the same loss. -/
module

public import proofs.«01_k».proof.Proof.Value
public import proofs.«01_k».proof.Proof.RefVal
public import proofs.«01_k».proof.Pre_finite
public import proofs.«01_k».proof.Proof.Gen.Pre_finite

@[expose] public section

set_option maxRecDepth 16384

noncomputable section

namespace Cert.Agree

open Cert.FirstMin Idealize.ShloMosaic

abbrev S16x576x64 : Shape := ⟨3, ![16, 576, 64]⟩
abbrev S8192x64 : Shape := ⟨2, ![8192, 64]⟩

/-! ## The precondition -/

/-- A conjunction of bits that is one has every bit one. -/
theorem fold_andi {ι : Type} [DecidableEq ι] (s : Finset ι) (f : ι → BitVec 1) (h : s.fold IntOp.andi (1#1) f = 1#1) : ∀ i ∈ s, f i = 1#1 := by
  induction s using Finset.induction_on with
  | empty => intro i hi; exact absurd hi (Finset.notMem_empty i)
  | insert a s ha ih =>
    rw [Finset.fold_insert ha] at h
    obtain ⟨h1, h2⟩ := (show IntOp.andi (f a) (s.fold IntOp.andi (1#1) f) = 1#1 → f a = 1#1 ∧ s.fold IntOp.andi (1#1) f = 1#1 from by
      generalize f a = x; generalize s.fold IntOp.andi (1#1) f = y; revert x y; decide) h
    intro i hi
    rcases Finset.mem_insert.mp hi with rfl | hi
    · exact h1
    · exact ih h2 i hi

theorem fold_andi_univ {ι : Type} [DecidableEq ι] [Fintype ι] (f : ι → BitVec 1) (h : Finset.univ.fold IntOp.andi (1#1) f = 1#1) (i : ι) : f i = 1#1 :=
  fold_andi _ f h i (Finset.mem_univ i)

/-- A number whose absolute value is below infinity is a real. -/
theorem real_of_lt (x : EReal) (h : max x (-x) < ⊤) : ∃ r : ℝ, x = (r : EReal) := by
  induction x using EReal.rec with
  | bot => simp at h
  | coe r => exact ⟨r, rfl⟩
  | top => simp at h

/-- The precondition says that every entry of both arrays is a real. -/
theorem real_of_pre [Cert.Pre_finite.Facts] (Z : FVec Ideal S16x576x64 .f32) (C : FVec Ideal S8192x64 .f32)
    (h : Cert.Pre_finite.fn (F := Ideal) Z C = fun _ => 1#1) :
    (∀ (i : Fin 16) (j : Fin 576) (d : Fin 64), ∃ r : ℝ, Z (ix3 i j d) = (r : EReal)) ∧ ∀ (k : Fin 8192) (d : Fin 64), ∃ r : ℝ, C (ix2 k d) = (r : EReal) := by
  have h0 := congrFun h (fun a => a.elim0)
  revert h0
  pointwise [Cert.Pre_finite.fn]
  intro h0
  obtain ⟨hZ, hC⟩ := (show ∀ x y : BitVec 1, IntOp.andi x y = 1#1 → x = 1#1 ∧ y = 1#1 from by decide) _ _ h0
  have bit : ∀ x : EReal, BitVec.ofBool (decide (max x (-x) < Ideal.ofBits .f32 0x7F800000#32)) = 1#1 → ∃ r : ℝ, x = (r : EReal) := fun x hx => by
    rw [Cert.KernelIdeal.Rows.ofBits_top] at hx
    refine real_of_lt x ?_
    by_contra hn
    rw [decide_eq_false hn] at hx
    exact absurd hx (by decide)
  constructor
  · intro i j d
    exact bit (Z (ix3 i j d)) (fold_andi_univ _ hZ (i, j, d))
  · intro k d
    have hb := fold_andi_univ _ hC (k, d)
    exact bit (C (ix2 k d)) hb

/-! ## Reals -/

/-- A sum of reals, as an extended real. -/
theorem coe_sum {n : ℕ} (f : Fin n → ℝ) : ((∑ d, f d : ℝ) : EReal) = ∑ d, (f d : EReal) := by
  induction n with
  | zero => simp
  | succ n ih => rw [Fin.sum_univ_castSucc, Fin.sum_univ_castSucc, EReal.coe_add, ih]

theorem minusTwo : Ideal.ofBits .f32 0xC0000000#32 = ((-2 : ℝ) : EReal) := by
  simp [Ideal.ofBits, Ideal.ieee]
  norm_num [← EReal.coe_mul]
theorem two : Ideal.ofBits .f32 0x40000000#32 = ((2 : ℝ) : EReal) := by
  simp [Ideal.ofBits, Ideal.ieee]
  norm_num [← EReal.coe_mul]
theorem quarter : Ideal.ofBits .f32 0x3E800000#32 = ((1 / 4 : ℝ) : EReal) := by
  simp [Ideal.ofBits, Ideal.ieee]
  norm_num [← EReal.coe_mul]
theorem entries : Ideal.ofBits .f32 0x49100000#32 = ((589824 : ℝ) : EReal) := by
  simp [Ideal.ofBits, Ideal.ieee]
  norm_num [← EReal.coe_mul]

/-- The square of the distance between two rows of reals. -/
def sq (z c : Fin 64 → ℝ) : ℝ := ∑ d, (z d - c d) * (z d - c d)

/-- The kernel's spelling of it: the square of the first, the product with twice the second's opposite, the square of the second. -/
theorem sq_kernel (z c : Fin 64 → ℝ) : (∑ d : Fin 64, (z d : EReal) * (z d : EReal)) + ∑ d : Fin 64, (z d : EReal) * (((-2 : ℝ) : EReal) * (c d : EReal))
    + ∑ d : Fin 64, (c d : EReal) * (c d : EReal) = ((sq z c : ℝ) : EReal) := by
  simp only [← EReal.coe_mul, ← coe_sum, ← EReal.coe_add]
  refine congrArg _ ?_
  rw [sq, ← Finset.sum_add_distrib, ← Finset.sum_add_distrib]
  exact Finset.sum_congr rfl fun d _ => by ring

/-- The reference's spelling of it. -/
theorem sq_reference (z c : Fin 64 → ℝ) : (∑ d : Fin 64, (z d : EReal) * (z d : EReal)) - ((2 : ℝ) : EReal) * ∑ d : Fin 64, (z d : EReal) * (c d : EReal)
    + ∑ d : Fin 64, (c d : EReal) * (c d : EReal) = ((sq z c : ℝ) : EReal) := by
  simp only [← EReal.coe_mul, ← coe_sum, ← EReal.coe_add, ← EReal.coe_sub]
  refine congrArg _ ?_
  rw [sq, Finset.mul_sum, ← Finset.sum_sub_distrib, ← Finset.sum_add_distrib]
  exact Finset.sum_congr rfl fun d _ => by ring

theorem sq_differences (z c : Fin 64 → ℝ) :
    (∑ d : Fin 64, ((z d : EReal) - (c d : EReal)) * ((z d : EReal) - (c d : EReal))) = ((sq z c : ℝ) : EReal) := by
  simp only [← EReal.coe_sub, ← EReal.coe_mul, ← coe_sum]
  rfl

/-- The nine blocks' means add up to a quarter of the whole mean. -/
theorem mean (x : Fin 9216 → ℝ) : (∑ t : Fin 9, (∑ r : Fin 1024, (x ⟨t.val * 1024 + r.val, by omega⟩ : EReal)) * ((2359296⁻¹ : ℝ) : EReal))
    = ((1 / 4 : ℝ) : EReal) * Ideal.div (∑ n : Fin 9216, (x n : EReal)) ((589824 : ℝ) : EReal) := by
  rw [Ideal.div_coe (by norm_num)]
  simp only [← EReal.coe_mul, ← coe_sum]
  refine congrArg _ ?_
  rw [Fin.sum_univ_tiles 9 1024 rfl x, ← Finset.sum_mul]
  ring

/-! ## The two programs -/

open Cert.KernelIdeal.Arrays (tok kdist nearest nearest_spec ldist)
open Cert.ReferenceIdeal.Terms (toks dists codesRef lossRef toks_apply dists_apply codesRef_apply lossRef_apply)

section
variable [Cert.Pre_finite.Facts] (Z : FVec Ideal S16x576x64 .f32) (C : FVec Ideal S8192x64 .f32) (h : Cert.Pre_finite.fn (F := Ideal) Z C = fun _ => 1#1)

include h in
/-- Both arrays, read as reals. -/
theorem reals : ∃ (z : Fin 9216 → Fin 64 → ℝ) (c : Fin 8192 → Fin 64 → ℝ), (∀ n d, tok Z n d = (z n d : EReal)) ∧ ∀ k d, C (ix2 k d) = (c k d : EReal) := by
  obtain ⟨h1, h2⟩ := real_of_pre Z C h
  choose z hz using h1
  choose c hc using h2
  exact ⟨fun n d => z ⟨n.val / 576, by omega⟩ ⟨n.val % 576, by omega⟩ d, c, fun n d => hz _ _ d, hc⟩

include h in
/-- The two programs' distances are the same. -/
theorem dists_eq (n : Fin 9216) (k : Fin 8192) : dists (toks Z) C (ix2 n k) = kdist Z C n k := by
  obtain ⟨z, c, hz, hc⟩ := reals Z C h
  have e : ∀ d, toks Z (ix2 n d) = (z n d : EReal) := fun d => (toks_apply Z n d).trans (hz n d)
  rw [dists_apply, kdist, minusTwo, two]
  simp only [e, hz, hc]
  exact (sq_reference (z n) (c k)).trans (sq_kernel (z n) (c k)).symm

include h in
/-- THE CODES agree: the reference's code of a token is its nearest codebook row. -/
theorem codes_eq (n : Fin 9216) : codesRef Z C (ix1 n) = BitVec.ofNat 32 (nearest Z C n).val := by
  refine codesRef_apply Z C n _ ?_
  rw [show (fun q => dists (toks Z) C (ix2 n q)) = kdist Z C n from funext fun q => dists_eq Z C h n q]
  exact nearest_spec Z C n

include h in
/-- THE LOSSES agree. -/
theorem loss_eq (j : Cert.ReferenceIdeal.S_.Idx) :
    (∑ t : Fin 9, (∑ r : Fin 1024, ldist Z C ⟨t.val * 1024 + r.val, by omega⟩) * ((2359296⁻¹ : ℝ) : EReal)) = lossRef Z C j := by
  obtain ⟨z, c, hz, hc⟩ := reals Z C h
  have e : ∀ n d, toks Z (ix2 n d) = (z n d : EReal) := fun n d => (toks_apply Z n d).trans (hz n d)
  have hl : ∀ n, ldist Z C n = ((sq (z n) (c (nearest Z C n)) : ℝ) : EReal) := fun n => by
    rw [ldist, kdist, minusTwo]
    simp only [hz, hc]
    exact sq_kernel _ _
  rw [lossRef_apply Z C _ (codes_eq Z C h), quarter, entries]
  simp only [e, hc, sq_differences, hl]
  exact mean fun n => sq (z n) (c (nearest Z C n))

end

end Cert.Agree

end

end
-- ==== Proof.Nearest.lean ====
/- The claims about the distance kernel and its reference. -/
module

public import proofs.«01_k».proof.Defs
public import proofs.«01_k».proof.Proof.Agree
public import proofs.«01_k».proof.Proof.Gen.Kernel.Frame
public import proofs.«01_k».proof.Proof.Gen.KernelIdeal.Frame
public import proofs.«01_k».proof.Proof.Gen.KernelIdeal.Value
public import Idealize.ShloMosaic.Lib.Claim

@[expose] public section

set_option maxRecDepth 16384

noncomputable section

namespace Cert.Nearest

open Idealize.ShloMosaic Idealize.ShloMosaic.TcCoe Idealize.SL.Sem

/-- The kernel terminates, keeps its arguments and leaves every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference's frame. -/
theorem frame_reference : Cert.quiescent_ReferenceIdeal := fun m ρ _ =>
  (θ_run Cert.ReferenceIdeal.defs _ _).mono (fun _ h => ⟨fun c => (h.1 c).2.2, h.2⟩) (Cert.ReferenceIdeal.Terms.run (F := Ideal) m ρ)

theorem frame_reference_finite : Cert.quiescent_ReferenceIdeal_pre_finite := fun m ρ _ => frame_reference m ρ trivial

/-- The named constant is the kernel's own, idealized. -/
theorem preserves : Cert.preserves_Kernel_KernelIdeal :=
  IdealRules.named_const.statement Cert.KernelIdeal.κ "beta_mean" .f32 0x34E38E39#32 ((2359296⁻¹ : ℝ) : EReal) rfl

/-- A column of codes, read at its rows. -/
theorem column (k : IVec Cert.ReferenceIdeal.S9216 32) (v : Fin 9216 → BitVec 32) (h : ∀ n, k (ix1 n) = v n) :
    (shapeCast Cert.ReferenceIdeal.S9216x1 k Cert.ReferenceIdeal.Gen.shapeCasts_S9216_S9216x1 : IVec Cert.ReferenceIdeal.S9216x1 32) = fun j => v (j 0) := by
  funext j
  idx_vars j
  obtain rfl : j1 = 0 := Subsingleton.elim _ _
  pointwise
  exact h j0

/-- A single number, laid out as one row of one column. -/
theorem single (x : FVec Ideal Cert.ReferenceIdeal.S_ .f32) (v : EReal) (h : ∀ j, x j = v) :
    (shapeCast Cert.ReferenceIdeal.S1x1 x Cert.ReferenceIdeal.Gen.shapeCasts_S_S1x1 : FVec Ideal Cert.ReferenceIdeal.S1x1 .f32) = fun _ => v := by
  funext j
  exact h _

/-- With every entry finite, the kernel's idealization and the reference leave the same codes and the same loss. -/
theorem algebraic : Cert.algebraic_KernelIdeal_ReferenceIdeal_pre_finite := by
  intro m g m' g' hpre hagree
  refine ⟨fun c => Cert.KernelIdeal.Arrays.codesArr m c, fun c => (fun _ => ∑ t : Fin Cert.KernelIdeal.cfg0.N, Cert.KernelIdeal.Arrays.part m c t : FVec Ideal Cert.KernelIdeal.S1x1 .f32),
    (θ_run Cert.KernelIdeal.defs _ _).mono (fun r h c => ?_) (Cert.KernelIdeal.Value.run_blocks (F := Ideal) m g),
    (θ_run Cert.ReferenceIdeal.defs _ _).mono (fun r h c => ?_) (Cert.ReferenceIdeal.Terms.run (F := Ideal) m' g')⟩
  · obtain ⟨h1, h2, h3⟩ := h c
    exact ⟨h1.trans (Cert.KernelIdeal.Arrays.codes m c), h2.trans (Cert.KernelIdeal.Arrays.loss m c), h3⟩
  · obtain ⟨h1, h2, h3, h4⟩ := h.1 c
    refine ⟨h1.trans ?_, h2.trans ?_, h3, h4⟩
    · rw [(hagree c).1, (hagree c).2]
      exact column _ _ fun n => Cert.Agree.codes_eq _ _ (hpre c) n
    · rw [(hagree c).1, (hagree c).2]
      exact single _ _ fun j => (Cert.Agree.loss_eq _ _ (hpre c) j).symm

end Cert.Nearest

end

end
-- ==== Proof.GatherTile.lean ====
/- One tile's run of the row gather: it fetches its block of row numbers, gathers those rows of the table and writes them to its block of the result. -/
module

public import proofs.«01_k».proof.Proof.Gen.GatherIdeal
public import proofs.«01_k».proof.Proof.Gen.GatherIdeal.Skeleton
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.Claim
public import Idealize.ShloMosaic.Lib.Pointwise

@[expose] public section

set_option maxRecDepth 16384

noncomputable section

namespace Cert.GatherRun

open Cert.GatherIdeal Cert.GatherIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
/-- The ghost state of the run. -/
abbrev MM (F : FTy → Type) : Type := MT nD τ sig (HIx 1) (Elt F) ℕ UU ℕ
abbrev EH : Emb UH (MM F) := embL

/-! ## The arrays of the call -/

abbrev kLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

abbrev kV : Memref sig .scVector .hbm S9216 .i32 := Memref.whole main_v1_scv
abbrev tV : Memref sig .scVector .hbm S8192x128 .f32 := Memref.whole main_v2_scv
abbrev oV : Memref sig .scVector .hbm S9216x128 .f32 := Memref.whole main_v3_scv
abbrev sV : Memref sig .scVector .vmem S288 .i32 := Memref.whole cc0_scratch0
abbrev rV : Memref sig .scVector .vmem S288x128 .f32 := Memref.whole cc0_scratch1

/-! ## Thirty-two blocks of 288 rows -/

theorem kdiv : 32 ∣ S9216.size 0 := ⟨288, rfl⟩
theorem odiv : 32 ∣ S9216x128.size 0 := ⟨288, rfl⟩
abbrev kBlock (w : Fin 32) : Rect S9216 := Rect.part (s := S9216) (a₀ := 0) kdiv w
abbrev oBlock (w : Fin 32) : Rect S9216x128 := Rect.part (s := S9216x128) (a₀ := 0) odiv w
abbrev kSet (w : Fin 32) : Finset S9216.Idx := ((kV).view.slice (kBlock w)).set
abbrev oSet (w : Fin 32) : Finset S9216x128.Idx := ((oV).view.slice (oBlock w)).set

/-- The worker's number: two SparseCores to a subcore number. -/
def wid (c : Fin 2) (i : Fin 16) : Fin 32 := ⟨i.val * 2 + c.val, by omega⟩

/-- Worker `w`'s share of the table. -/
abbrev tq (w : Fin 32) : PosShare TreeShare := ShareLeaves.leaf 5 fullShare w

/-! ## What a tile is given and what it leaves -/

variable (ks : (d : Dev nD) → Buf (Elt F) (kLoc d)) (tb : (d : Dev nD) → Buf (Elt F) (tLoc d)) (o₀ : (d : Dev nD) → Buf (Elt F) (oLoc d))

/-- The row a code names. -/
def rowOf (v : BitVec 32) : Fin 8192 := ⟨v.toNat % 8192, Nat.mod_lt _ (by decide)⟩

/-- The gathered array: row `n` is the table's row of code `n`. -/
def outF (d : Dev nD) : Buf (Elt F) (oLoc d) := fun j : S9216x128.Idx => tb d (ix2 (rowOf (ks d (ix1 (j 0)))) (j 1))

abbrev kPts (d : Dev nD) (w : Fin 32) : sProp (MM F) := kLoc d ↦[kSet w]{fullShare} ks d
abbrev tPts (d : Dev nD) (w : Fin 32) : sProp (MM F) := tLoc d ↦{tq w} tb d
abbrev oPts (d : Dev nD) (w : Fin 32) (f : Buf (Elt F) (oLoc d)) : sProp (MM F) := oLoc d ↦[oSet w]{fullShare} f

/-- Worker `w`'s block of codes, share of the table and block of the result, the result's at contents `f`. -/
abbrev part (d : Dev nD) (w : Fin 32) (f : Buf (Elt F) (oLoc d)) : sProp (MM F) := iprop(kPts ks d w ∗ tPts tb d w ∗ oPts d w f)

/-- The codes are numbers of table rows. -/
def InRange : Prop := ∀ (d : Dev nD) (j : S9216.Idx), (ks d j).toNat < 8192

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid ⟨(L 0).val, (L 0).isLt⟩ ⟨(L 1).val, (L 1).isLt⟩

abbrev kRect (L : grid0.Coords) : Rect S9216 := Rect.unit (s := S9216) (k0_off1 L) S288.size (k0_off1_inb L)
abbrev oRect (L : grid0.Coords) : Rect S9216x128 := Rect.unit (s := S9216x128) (k0_off2 L) S288x128.size (k0_off2_inb L)
/-- The tile's codes and the tile's rows of the result, and all of the table, as the task addresses them. -/
abbrev kMine (L : grid0.Coords) : Memref sig .scVector .hbm S288 .i32 := (kV).slice (kRect L) (fun _ => rfl)
abbrev oMine (L : grid0.Coords) : Memref sig .scVector .hbm S288x128 .f32 := (oV).slice (oRect L) (fun _ => rfl)
abbrev tAll : Memref sig .scVector .hbm S8192x128 .f32 := (tV).slice (Rect.unit (s := S8192x128) ![0, 0] S8192x128.size inb_S8192x128_S8192x128_0_0) (fun _ => rfl)

omit [FloatOps F] in
theorem kRect_eq : kRect L = kBlock (wL L) := by
  unfold kRect kBlock Rect.part Rect.block
  congr 1 <;> funext a
  · rw [k0_off1_eq]
    match a with
    | 0 => simp [Shape.partIx, Shape.partSize, wid]; omega
  · match a with
    | 0 => simp [Shape.partSize]
omit [FloatOps F] in
theorem oRect_eq : oRect L = oBlock (wL L) := by
  unfold oRect oBlock Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_kMine : (kMine L).view.set = kSet (wL L) := by
  show ((kV).view.slice (kRect L)).set = ((kV).view.slice (kBlock (wL L))).set
  exact kRect_eq L ▸ rfl
omit [FloatOps F] in
theorem set_oMine : (oMine L).view.set = oSet (wL L) := by
  show ((oV).view.slice (oRect L)).set = ((oV).view.slice (oBlock (wL L))).set
  exact oRect_eq L ▸ rfl

omit [FloatOps F] in
theorem pts_kMine (f : Buf (Elt F) (kLoc d)) :
    ((kMine L).view.loc (V d (cV L) (jV L)) ↦[(kMine L).view.set]{fullShare} f : sProp (MM F)) = kLoc d ↦[kSet (wL L)]{fullShare} f := by
  rw [set_kMine]
omit [FloatOps F] in
theorem pts_oMine (f : Buf (Elt F) (oLoc d)) :
    ((oMine L).view.loc (V d (cV L) (jV L)) ↦[(oMine L).view.set]{fullShare} f : sProp (MM F)) = oLoc d ↦[oSet (wL L)]{fullShare} f := by
  rw [set_oMine]
omit [FloatOps F] in
theorem pts_tV (q : PosShare TreeShare) (f : Buf (Elt F) (tLoc d)) :
    ((tV).view.loc (V d (cV L) (jV L)) ↦{q} f : sProp (MM F)) = tLoc d ↦{q} f := rfl
omit [FloatOps F] in
theorem pts_sV (f : Buf (Elt F) ((V d (cV L) (jV L)).loc cc0_scratch0)) :
    ((sV).view.loc (V d (cV L) (jV L)) ↦{fullShare} f : sProp (MM F)) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp (MM F)) = (V d (cV L) (jV L)).loc cc0_scratch1 ↦{fullShare} f := rfl

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scratch2.sem)
abbrev cC (d : Dev nD) (c : Fin τ.nSC) (i : Fin τ.nSub) : GSem nD τ sig := (V d c i, .dma cc0_scoped1.sem)

omit [FloatOps F] in
/-- The tile's three transfer counters are among its own. -/
theorem ownSems0_V :
    (ownSems0 (V d (cV L) (jV L)) : sProp (MM F))
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

omit [FloatOps F] in
/-- The two scratch buffers are among the tile's own. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The words a tile's fetch of its codes lands are the codes' own, at the tile's offset. -/
theorem fetched (fs : Buf (Elt F) ((V d (cV L) (jV L)).loc cc0_scratch0)) (pay : S288.Idx → Elt F .i32)
    (hpay : pay = (kMine L).view.read (Elt F) (ks d)) (x : S288.Idx) :
    (sV).view.read (Elt F) (View.write (Elt F) (sV).view fs pay Finset.univ) x = ks d ((kMine L).view.emb x) := by
  subst hpay
  rw [View.write_whole_univ]
  simp only [Memref.view_whole, View.read_whole]
  exact (View.read_apply _ _).trans (cast_eq _ _)

omit [FloatOps F] in
/-- So every offset of the gather is a row of the table. -/
theorem offs_inb (hk : InRange ks) (fs : Buf (Elt F) ((V d (cV L) (jV L)).loc cc0_scratch0)) (pay : S288.Idx → Elt F .i32)
    (hpay : pay = (kMine L).view.read (Elt F) (ks d)) :
    ∀ x, ((sV).view.read (Elt F) (View.write (Elt F) (sV).view fs pay Finset.univ) x).toNat < S8192x128.size gathers_S8192x128_S288x128.axis := fun x => by
  rw [fetched ks d L fs pay hpay x]
  exact hk d _

omit [FloatOps F] in
/-- What the gather reads for an element of the tile's rows is the gathered array's own element there. -/
theorem gathered (hg : S8192x128.Gathers 0 S288x128) (idx : S288.Idx → Elt F .i32) (hidx : ∀ x, idx x = ks d ((kMine L).view.emb x))
    (hn : S288.numel = S288x128.size hg.axis') (hin : ∀ x, (idx x).toNat < S8192x128.size hg.axis) (x : S288x128.Idx) :
    SparseCore.gatherPayload (F := F) (e := .f32) hg ((tAll).view.read (Elt F) (tb d)) (SparseCore.rows (F := F) idx hn hin) x
      = outF ks tb d ((oMine L).view.emb x) := by
  let n : Fin 288 := x 0
  let r : Fin 9216 := (oMine L).view.emb x 0
  have hk : ∀ h : S288x128.size hg.axis' = S288.numel, (S288.rowMajor.symm (Fin.cast h (x hg.axis')) : S288.Idx) = ix1 n := fun h =>
    S288.rowMajor.symm_apply_eq.mpr (Fin.ext (rowMajor_val1 (ix1 n)).symm)
  have he : (kMine L).view.emb (ix1 n) = (ix1 r : S9216.Idx) := by
    refine (eq_ix1 ((kMine L).view.emb (ix1 n) : S9216.Idx)).trans (congrArg ix1 (Fin.ext ?_))
    show (k0_off1 L) 0 + 1 * (x 0).val = (k0_off2 L) 0 + 1 * (x 0).val
    rw [k0_off1_eq, k0_off2_eq]
    rfl
  have hword : (idx (ix1 n)).toNat % 8192 = (idx (ix1 n)).toNat := Nat.mod_eq_of_lt (hin _)
  have hcode : idx (ix1 n) = ks d (ix1 r : S9216.Idx) := (hidx _).trans (congrArg (ks d) he)
  have hread : ∀ y, (tAll).view.read (Elt F) (tb d) y = tb d ((tAll).view.emb y) := fun y => (View.read_apply _ _).trans (cast_eq _ _)
  unfold SparseCore.gatherPayload outF
  rw [hread]
  refine congrArg (tb d) (funext fun a => ?_)
  apply Fin.ext
  match a with
  | ⟨0, _⟩ =>
    show 0 + 1 * (hg.idx (SparseCore.rows (F := F) idx hn hin) x hg.axis).val = _
    rw [Shape.Gathers.idx_axis]
    refine (show 0 + 1 * (idx (S288.rowMajor.symm (Fin.cast hn.symm (x hg.axis')))).toNat = (ks d (ix1 r : S9216.Idx)).toNat % 8192 from ?_)
    rw [← hcode, hword, hk, Nat.zero_add, Nat.one_mul]
  | ⟨1, _⟩ =>
    show 0 + 1 * (hg.idx (SparseCore.rows (F := F) idx hn hin) x ⟨1, _⟩).val = (k0_off2 L) 1 + 1 * (x 1).val
    rw [Shape.Gathers.idx_of_ne hg _ x ⟨1, by decide⟩ (by decide), k0_off2_eq]
    rfl

omit [FloatOps F] in
/-- The tile's rows of the result, once written with the gathered array's elements, hold the gathered array there. -/
theorem pts_written (f : Buf (Elt F) (oLoc d)) (pay : S288x128.Idx → Elt F .f32) (h : ∀ x, pay x = outF ks tb d ((oMine L).view.emb x)) :
    ((oMine L).view.loc (V d (cV L) (jV L)) ↦[(oMine L).view.set]{fullShare} (oMine L).view.writes (Elt F) f [⟨Rect.whole S288x128, pay⟩] : sProp (MM F))
      = oLoc d ↦[oSet (wL L)]{fullShare} outF ks tb d := by
  rw [← pts_oMine d L]
  refine pointsTo_congr fun i hi => ?_
  obtain ⟨x, -, rfl⟩ := Finset.mem_map.mp hi
  have hx : (oMine L).view.emb x = ((oMine L).view.slice (Rect.whole S288x128)).emb x := by
    rw [View.emb_slice]
    exact congrArg (oMine L).view.emb (Rect.emb_whole_apply S288x128 x).symm
  rw [View.writes_singleton, hx, View.write_emb_of_mem _ _ (Finset.mem_univ x), ← hx]
  exact (cast_eq _ _).trans (h x)

omit [FloatOps F] in
/-- A tile's credit for a transfer into its rows is the bits moved. -/
theorem wordCredit (s' : Shape) : sig.dmaCredit .scVector (Kind.scVector.table .vmem) (rV).view.buf s' .f32 = s'.numel * EltTy.f32.bits := rfl

omit [FloatOps F] in
/-- The rows the tile's scratch holds once the gather has landed in it are the gathered array's. -/
theorem landed (fr : Buf (Elt F) ((V d (cV L) (jV L)).loc cc0_scratch1)) (fs : Buf (Elt F) ((V d (cV L) (jV L)).loc cc0_scratch0))
    (pay : S288.Idx → Elt F .i32) (hpay : pay = (kMine L).view.read (Elt F) (ks d))
    (hin : ∀ x, ((sV).view.read (Elt F) (View.write (Elt F) (sV).view fs pay Finset.univ) x).toNat < S8192x128.size gathers_S8192x128_S288x128.axis)
    (x : S288x128.Idx) :
    (rV).view.read (Elt F) (View.write (Elt F) (rV).view fr
        (SparseCore.gatherPayload (F := F) (e := .f32) gathers_S8192x128_S288x128 ((tAll).view.read (Elt F) (tb d))
          (SparseCore.rows (F := F) ((sV).view.read (Elt F) (View.write (Elt F) (sV).view fs pay Finset.univ)) rfl hin)) Finset.univ) x
      = outF ks tb d ((oMine L).view.emb x) := by
  rw [View.write_whole_univ]
  simp only [Memref.view_whole, View.read_whole]
  exact gathered ks tb d L gathers_S8192x128_S288x128 _ (fetched ks d L fs pay hpay) rfl hin x

set_option maxHeartbeats 4000000 in
/-- The task on one tile: its codes fetched, the rows they name gathered, the rows written out. -/
theorem tile_body (hF : (K (F := F)).Facts) (hk : InRange ks) (O : CellTallies nD τ sig (HIx 1)) (W : Waits sig (HIx 1)) (hO : ∀ g, O g none = 0) :
    iprop(levAts (K (F := F)).L (K (F := F)).lev ∗ emp
        ∗ part ks tb d (wL L) (o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L tV (Memref.isWhole_whole _) kV (Memref.isWhole_whole _) oV (Memref.isWhole_whole _)
            sV (Memref.isWhole_whole _) rV (Memref.isWhole_whole _) cc0_scratch2 cc0_scoped0 cc0_scoped1)
          fun _ => iprop(part ks tb d (wL L) (outF ks tb d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hk, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kMine (F := F) d L _).symm) $$ Hk
  ihave Ho' := (Entails.of_eq (pts_oMine (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hts := (pointsTo_split_subset (q := tq (wL L)) (f := tb d) (S := Finset.univ) (Finset.subset_univ (tAll).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp (MM F))
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ks d L) Finset.univ : sProp (MM F))
      = (sV).view.loc (V d (cV L) (jV L)) ↦[(sV).view.set]{fullShare} View.write (Elt F) (sV).view fs (tile_body.sl.dma0 ks d L) Finset.univ
      by rw [hss])) $$ Hs'
  have hN : ∀ h : S8192x128.Gathers 0 S288x128, ∑ j, ((rV).slice (S288x128.rowRect h.axis' j) (S288x128.stride_rowRect h.axis' j)).view.dmaCredit
      = (rV).view.dmaCredit := fun h => SparseCore.sum_rowCredit_eq_dmaCredit rV h.axis' wordCredit
  iapply (SparseCore.wp_indirectGatherLocal countersEmb 𝒱₀ (V d (cV L) (jV L)) none (hg := gathers_S8192x128_S288x128) (default : HIx 1)
      (rV).view.dmaCredit (hN _) (by decide) (offs_inb ks d L hk fs _ rfl)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (pointsTo_split_subset (q := tq (wL L)) (f := tb d) (S := Finset.univ) (Finset.subset_univ (tAll).view.set)).2 $$ [Hts Htr]; · isplitl [Hts] <;> iassumption
  ihave Hr3 := (Entails.of_eq (show ((rV).view.loc (V d (cV L) (jV L)) ↦[(rV).view.set]{fullShare} _ : sProp (MM F))
      = (rV).view.loc (V d (cV L) (jV L)) ↦{fullShare} _ by rw [hrs])) $$ Hr'
  ihave Hs3 := (Entails.of_eq (show ((sV).view.loc (V d (cV L) (jV L)) ↦[(sV).view.set]{fullShare} _ : sProp (MM F))
      = (sV).view.loc (V d (cV L) (jV L)) ↦{fullShare} _ by rw [hss])) $$ Hs'
  sl_exec
  sl_step
  isplitl [Hk' Ht' Ho']
  · isplitl [Hk']; · iapply (Entails.of_eq (pts_kMine (F := F) d L _)); iexact Hk'
    isplitl [Ht']; · iexact Ht'
    have hp : ∀ x, tile_body.sl.dma0_1 ks tb d L hk fs fr x = outF ks tb d ((oMine L).view.emb x) := fun x => by
      unfold tile_body.sl.dma0_1
      exact landed ks tb d L fr fs _ rfl _ x
    ihave Hw := (Entails.of_eq (pts_written ks tb d L (o₀ d) (tile_body.sl.dma0_1 ks tb d L hk fs fr) hp)) $$ Ho'
    iexact Hw
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.GatherRun

end
-- ==== Proof.GatherRun.lean ====
/- The row gather's whole run: the host's operations, the call on every tile, and the arrays it leaves. -/
module

public import proofs.«01_k».proof.Proof.GatherTile

@[expose] public section

set_option maxRecDepth 16384

noncomputable section

namespace Cert.GatherRun

open Cert.GatherIdeal Cert.GatherIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

/-! ## The arrays in thirty-two parts -/

section Parts

variable (ks : (d : Dev nD) → Buf (Elt F) (kLoc d)) (tb : (d : Dev nD) → Buf (Elt F) (tLoc d)) (o₀ : (d : Dev nD) → Buf (Elt F) (oLoc d))

/-- A pair of a SparseCore and a subcore is a worker's number. -/
def pairs : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_) <;> simp only [wid] <;> omega
  right_inv w := Fin.ext (by simp only [wid]; omega)

theorem workers (Φ : Fin 32 → sProp (MM F)) :
    (bigSep Finset.univ fun c : Fin 2 => bigSep Finset.univ fun i : Fin 16 => Φ (wid c i)) = bigSep Finset.univ Φ := by
  rw [bigSep_univ_equiv pairs Φ, bigSep_univ_prod]; rfl

theorem kSet_eq (w : Fin 32) : kSet w = (kBlock w).set := by
  show ((View.whole (main_v1_scv : Ref sig .scVector)).slice (kBlock w)).set = _
  rw [View.set_slice]; exact Finset.map_refl
theorem oSet_eq (w : Fin 32) : oSet w = (oBlock w).set := by
  show ((View.whole (main_v3_scv : Ref sig .scVector)).slice (oBlock w)).set = _
  rw [View.set_slice]; exact Finset.map_refl
theorem kSet_disjoint : ∀ i ∈ (Finset.univ : Finset (Fin 32)), ∀ j ∈ (Finset.univ : Finset (Fin 32)), i ≠ j → Disjoint (kSet i) (kSet j) :=
  fun i _ j _ h => by rw [kSet_eq, kSet_eq]; exact Rect.part_disjoint kdiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem kSet_cover : (Finset.univ : Finset (Fin 32)).biUnion kSet = Finset.univ :=
  (Finset.biUnion_congr rfl fun i _ => kSet_eq i).trans (Rect.biUnion_part kdiv)
theorem oSet_cover : (Finset.univ : Finset (Fin 32)).biUnion oSet = Finset.univ :=
  (Finset.biUnion_congr rfl fun i _ => oSet_eq i).trans (Rect.biUnion_part odiv)

theorem kPts_all (d : Dev nD) (f : Buf (Elt F) (kLoc d)) :
    (kLoc d ↦{fullShare} f : sProp (MM F)) = bigSep Finset.univ fun w : Fin 32 => kLoc d ↦[kSet w]{fullShare} f := by
  rw [← pointsTo_biUnion Finset.univ (ℓ := kLoc d) kSet kSet_disjoint, kSet_cover]; try rfl
theorem oPts_all (d : Dev nD) (f : Buf (Elt F) (oLoc d)) :
    (oLoc d ↦{fullShare} f : sProp (MM F)) = bigSep Finset.univ fun w : Fin 32 => oLoc d ↦[oSet w]{fullShare} f := by
  rw [← pointsTo_biUnion Finset.univ (ℓ := oLoc d) oSet oSet_disjoint, oSet_cover]; try rfl
theorem tPts_all (d : Dev nD) (f : Buf (Elt F) (tLoc d)) :
    (tLoc d ↦{fullShare} f : sProp (MM F)) = bigSep Finset.univ fun w : Fin 32 => tLoc d ↦{tq w} f :=
  ShareLeaves.pointsTo_leaves Finset.univ f 5 fullShare

/-- The three arrays whole are the workers' parts. -/
theorem parts_all (d : Dev nD) (f : Buf (Elt F) (oLoc d)) :
    (bigSep Finset.univ fun w : Fin 32 => part ks tb d w f)
      = (iprop((kLoc d ↦{fullShare} ks d) ∗ (tLoc d ↦{fullShare} tb d) ∗ oLoc d ↦{fullShare} f) : sProp (MM F)) := by
  rw [kPts_all, tPts_all, oPts_all, bigSep_sep', bigSep_sep']

end Parts

/-! ## What the call's messages carry -/

section Pay

variable (ks : (d : Dev nD) → Buf (Elt F) (kLoc d)) (tb : (d : Dev nD) → Buf (Elt F) (tLoc d)) (o₀ : (d : Dev nD) → Buf (Elt F) (oLoc d))

/-- What tile `i` of SparseCore `c` is given (`f` the result's contents at the start) and gives back (`f` the gathered rows). -/
abbrev tilePart (d : Dev nD) (f : Buf (Elt F) (oLoc d)) (c : Fin ((K (F := F)).nCore 0)) (i : Fin ((K (F := F)).nSub 0)) : sProp (MM F) :=
  part ks tb d (wid (Fin.cast nCore_zero c) (Fin.cast nSub_zero i)) f
abbrev corePart (d : Dev nD) (f : Buf (Elt F) (oLoc d)) (c : Fin ((K (F := F)).nCore 0)) : sProp (MM F) :=
  bigSep Finset.univ fun i : Fin ((K (F := F)).nSub 0) => tilePart ks tb d f c i

def P : (K (F := F)).Pay (nD := nD) (Val := Elt F) (Name := ℕ) (U := UU) where
  st := fun q d c => match q with | 0 => corePart ks tb d (o₀ d) c
  dn := fun q d c => match q with | 0 => corePart ks tb d (outF ks tb d) c
  go := fun q d c i => match q with | 0 => tilePart ks tb d (o₀ d) c i
  td := fun q d c i => match q with | 0 => tilePart ks tb d (outF ks tb d) c i
  x := fun _ _ => iprop(emp)

instance P_storable : (P (F := F) ks tb o₀).IsStorable where
  st q d c := match q with
    | 0 => (inferInstance : BI.Storable (upEmb : UEmb _ (MM F)) (corePart ks tb d (o₀ d) c))
  dn q d c := match q with
    | 0 => (inferInstance : BI.Storable (upEmb : UEmb _ (MM F)) (corePart ks tb d (outF ks tb d) c))
  go q d c i := match q with
    | 0 => (inferInstance : BI.Storable (upEmb : UEmb _ (MM F)) (tilePart ks tb d (o₀ d) c i))
  td q d c i := match q with
    | 0 => (inferInstance : BI.Storable (upEmb : UEmb _ (MM F)) (tilePart ks tb d (outF ks tb d) c i))

theorem cores_all (d : Dev nD) (f : Buf (Elt F) (oLoc d)) :
    (bigSep Finset.univ fun c : Fin ((K (F := F)).nCore 0) => corePart ks tb d f c)
      = (iprop((kLoc d ↦{fullShare} ks d) ∗ (tLoc d ↦{fullShare} tb d) ∗ oLoc d ↦{fullShare} f) : sProp (MM F)) :=
  (workers fun w => part ks tb d w f).trans (parts_all ks tb d f)

theorem vecSplit : (K (F := F)).VecSplit' (P ks tb o₀) 0 := by
  intro d c
  show iprop(corePart ks tb d (o₀ d) c) ⊢ |={Set.univ}=> iprop(
      (bigSep Finset.univ fun i : Fin ((K (F := F)).nSub 0) => tilePart ks tb d (o₀ d) c i)
      ∗ ((bigSep Finset.univ fun i : Fin ((K (F := F)).nSub 0) => tilePart ks tb d (outF ks tb d) c i) -∗ corePart ks tb d (outF ks tb d) c))
  iintro H; imodintro
  isplitl [H]; · iexact H
  iintro H; iexact H

/-! ## The launch element of the ghost state -/

def u₀ : UU := (initOf (K (F := F)).hsCells (K (F := F)).hsToks, 1)

theorem emp_all {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ks tb o₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) ks tb o₀).x q thr) = bigSep Finset.univ fun _ => iprop(emp) from
    bigSep_congr fun _ _ => bigSep_univ_of_subsingleton (0 : Fin 1), emp_all]
  iempintro

end Pay

/-! ## The tile's obligation -/

section Obl

variable [FloatOps F]
variable (ks : (d : Dev nD) → Buf (Elt F) (kLoc d)) (tb : (d : Dev nD) → Buf (Elt F) (tLoc d)) (o₀ : (d : Dev nD) → Buf (Elt F) (oLoc d))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          tV (Memref.isWhole_whole _) kV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hk : InRange ks) : (K (F := F)).TileObl (D (F := F)) 𝒱 (P ks tb o₀) v₀ 0 := by
  intro d c i O W hO _ _
  simp only [show (P ks tb o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ks tb o₀ d (coordsV ⟨_, hci.1⟩ ⟨_, hci.2⟩) hF hk O W hO).trans (wp_mono frame _ _ fun _ => obl_post)

end Obl

/-! ## The host's operations around the call -/

section Main

variable [FloatOps F]
variable (m : (ℓ : Loc nD τ sig) → Buf (Elt F) ℓ) (ρ : Dev nD → PrngReg)

/-- The host's operations before the call: the inputs flattened, the zero, the table's rows padded. -/
abbrev ops1 : List (HloOp τ sig (Elt F)) :=
  [ reshape main_arg0 main_v0 (rfl : (.f32 : EltTy) = .f32) shapeCasts_S16x576x64_S9216x64,
    reshape main_arg2 main_v1 (rfl : (.i32 : EltTy) = .i32) shapeCasts_S16x576_S9216,
    nullary main_c (constantI S_ 32 0#32),
    TRef.unary (TRef.of (T := ⟨S_, .i32⟩) main_c) (TRef.of (T := ⟨S_, .f32⟩) main_call0_v0) (sitofp .f32),
    TRef.binary (TRef.of (T := ⟨S8192x64, .f32⟩) main_arg1) (TRef.of (T := ⟨S_, .f32⟩) main_call0_v0) (TRef.of (T := ⟨S8192x128, .f32⟩) main_v2)
      (fun x v => pad S8192x128 ![0, 0] ![0, 64] ![0, 0] x v pads_S8192x64_S8192x128_000_0640 h_S_) ]

/-- The host's operations after the call: the padding cut off, the straight-through sum, the result's shape. -/
abbrev ops2 : List (HloOp τ sig (Elt F)) :=
  [ unary main_v3 main_v4 ((extractStridedSlice S9216x64 ![0, 0] · slices_S9216x128_S9216x64_0_0) : (⟨S9216x128, .f32⟩ : BufTy).Contents (Elt F) → (⟨S9216x64, .f32⟩ : BufTy).Contents (Elt F)),
    binary main_v4 main_v0 main_v5 (subf : (⟨S9216x64, .f32⟩ : BufTy).Contents (Elt F) → (⟨S9216x64, .f32⟩ : BufTy).Contents (Elt F) → (⟨S9216x64, .f32⟩ : BufTy).Contents (Elt F)),
    binary main_v0 main_v5 main_v6 (addf : (⟨S9216x64, .f32⟩ : BufTy).Contents (Elt F) → (⟨S9216x64, .f32⟩ : BufTy).Contents (Elt F) → (⟨S9216x64, .f32⟩ : BufTy).Contents (Elt F)),
    reshape main_v6 main_v7 (rfl : (.f32 : EltTy) = .f32) shapeCasts_S9216x64_S16x576x64 ]

theorem main_eq (d : Dev nD) : main (F := F) d = (seq ops1 >>= fun _ => (sc (F := F)).run d 0 >>= fun _ => seq ops2) := rfl

theorem ops1_sub : ∀ op ∈ (ops1 : List (HloOp τ sig (Elt F))), op.bufs ⊆ Pipeline.ucRefs τ sig :=
  List.forall_iff_forall_mem.mp (show (ops1 : List (HloOp τ sig (Elt F))).Forall fun op => op.bufs ⊆ Pipeline.ucRefs τ sig from
    ⟨Pipeline.sub_ucRefs _ (reshape_bufs_sub ..), Pipeline.sub_ucRefs _ (reshape_bufs_sub ..), Pipeline.sub_ucRefs _ (nullary_bufs_sub ..),
      Pipeline.sub_ucRefs _ (unary_bufs_sub ..), Pipeline.sub_ucRefs _ (binary_bufs_sub ..)⟩)
theorem ops2_sub : ∀ op ∈ (ops2 : List (HloOp τ sig (Elt F))), op.bufs ⊆ Pipeline.ucRefs τ sig :=
  List.forall_iff_forall_mem.mp (show (ops2 : List (HloOp τ sig (Elt F))).Forall fun op => op.bufs ⊆ Pipeline.ucRefs τ sig from
    ⟨Pipeline.sub_ucRefs _ (unary_bufs_sub ..), Pipeline.sub_ucRefs _ (binary_bufs_sub ..), Pipeline.sub_ucRefs _ (binary_bufs_sub ..),
      Pipeline.sub_ucRefs _ (reshape_bufs_sub ..)⟩)
theorem ops1_fresh : ∀ op ∈ (ops1 : List (HloOp τ sig (Elt F))), op.fresh = ∅ :=
  List.forall_iff_forall_mem.mp (forall_fresh_of_map rfl)
theorem ops2_fresh : ∀ op ∈ (ops2 : List (HloOp τ sig (Elt F))), op.fresh = ∅ :=
  List.forall_iff_forall_mem.mp (forall_fresh_of_map rfl)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev k' : DevRef τ sig := Proc.devRef .tc (main_v1 : Ref sig .tc)
abbrev t' : DevRef τ sig := Proc.devRef .tc (main_v2 : Ref sig .tc)
abbrev o' : DevRef τ sig := Proc.devRef .tc (main_v3 : Ref sig .tc)
abbrev z' : DevRef τ sig := Proc.devRef .tc (main_v0 : Ref sig .tc)
abbrev r' : DevRef τ sig := Proc.devRef .tc (main_v7 : Ref sig .tc)

/-- The arrays at launch, and as the call finds them. -/
def V0 (d : Dev nD) : Valuation τ sig (Elt F) := fun b => m (d, b)
def V1 (d : Dev nD) : Valuation τ sig (Elt F) := after ops1 (V0 m d)
/-- The codes, the table and the result's first contents as the call finds them. -/
def ks (d : Dev nD) : Buf (Elt F) (kLoc d) := V1 m d k'
def tb (d : Dev nD) : Buf (Elt F) (tLoc d) := V1 m d t'
def o₀ (d : Dev nD) : Buf (Elt F) (oLoc d) := V1 m d o'
/-- The arrays after the call, and at the end. -/
def V2 (d : Dev nD) : Valuation τ sig (Elt F) := Function.update (V1 m d) o' (outF (ks m) (tb m) d)
def V3 (d : Dev nD) : Valuation τ sig (Elt F) := after ops2 (V2 m d)

theorem unscoped_held (d : Dev nD) :
    (unscopedBufs d (fun b => m ((SparseCore.T d).loc b)) : sProp (MM F)) = held (SparseCore.T d) (Pipeline.ucRefs τ sig) (V0 m d) :=
  Pipeline.unscopedBufs_held d (V0 m d)

/-- The call's three arrays. -/
abbrev R3 : Finset (DevRef τ sig) := {k', t', o'}
/-- The arguments and the result. -/
abbrev R4 : Finset (DevRef τ sig) := {a0', a1', a2', r'}
theorem R3_sub : R3 ⊆ Pipeline.ucRefs τ sig := by decide
theorem R4_sub : R4 ⊆ Pipeline.ucRefs τ sig := by decide

omit [FloatOps F] in
theorem held_R3 (d : Dev nD) (W : Valuation τ sig (Elt F)) :
    (held (SparseCore.T d) R3 W : sProp (MM F))
      = iprop((kLoc d ↦{fullShare} W k') ∗ (tLoc d ↦{fullShare} W t') ∗ oLoc d ↦{fullShare} W o') := by
  unfold held R3
  rw [SparseCore.bigSep_insert' (by decide), SparseCore.bigSep_insert' (by decide), bigSep_singleton]
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v7
omit [FloatOps F] in
theorem held_R4 (d : Dev nD) (W : Valuation τ sig (Elt F)) :
    (held (SparseCore.T d) R4 W : sProp (MM F))
      = iprop((a0Loc d ↦{fullShare} W a0') ∗ (a1Loc d ↦{fullShare} W a1') ∗ (a2Loc d ↦{fullShare} W a2') ∗ rLoc d ↦{fullShare} W r') := by
  unfold held R4
  rw [SparseCore.bigSep_insert' (by decide), SparseCore.bigSep_insert' (by decide), SparseCore.bigSep_insert' (by decide), bigSep_singleton]

theorem before_call (d : Dev nD) :
    (held (SparseCore.T d) (Pipeline.ucRefs τ sig) (after ops1 (V0 m d)) : sProp (MM F))
      = iprop(((kLoc d ↦{fullShare} ks m d) ∗ (tLoc d ↦{fullShare} tb m d) ∗ oLoc d ↦{fullShare} o₀ m d)
          ∗ held (SparseCore.T d) (Pipeline.ucRefs τ sig \ R3) (V1 m d)) := by
  show held (SparseCore.T d) (Pipeline.ucRefs τ sig) (V1 m d) = _
  rw [held_sub_split (SparseCore.T d) R3_sub, held_R3]; rfl

theorem V2_k (d : Dev nD) : V2 m d k' = ks m d := Function.update_of_ne (show k' ≠ o' by decide) _ _
theorem V2_t (d : Dev nD) : V2 m d t' = tb m d := Function.update_of_ne (show t' ≠ o' by decide) _ _
theorem V2_o (d : Dev nD) : V2 m d o' = outF (ks m) (tb m) d := Function.update_self _ _ _

theorem after_call (d : Dev nD) :
    (held (SparseCore.T d) (Pipeline.ucRefs τ sig) (V2 m d) : sProp (MM F))
      = iprop(((kLoc d ↦{fullShare} ks m d) ∗ (tLoc d ↦{fullShare} tb m d) ∗ oLoc d ↦{fullShare} outF (ks m) (tb m) d)
          ∗ held (SparseCore.T d) (Pipeline.ucRefs τ sig \ R3) (V1 m d)) := by
  rw [held_sub_split (SparseCore.T d) R3_sub, held_R3, V2_k, V2_t, V2_o,
    held_congr (SparseCore.T d) (S := Pipeline.ucRefs τ sig \ R3) (V := V2 m d) (V' := V1 m d) fun b hb => Function.update_of_ne (fun e => (Finset.mem_sdiff.mp hb).2 (by rw [e]; decide)) _ _]

/-! ## What the end holds -/

theorem kept1 {b : Ref sig .tc} (W : Valuation τ sig (Elt F)) (hb : b ∉ [main_v0, main_v1, main_c, main_call0_v0, main_v2]) :
    after (ops1 (F := F)) W (Proc.devRef .tc b) = W (Proc.devRef .tc b) :=
  after_of_writes_sub (W := [main_v0, main_v1, main_c, main_call0_v0, main_v2]) ops1 W (forall_writes_sub_of_map rfl) hb
theorem kept2 {b : Ref sig .tc} (W : Valuation τ sig (Elt F)) (hb : b ∉ [main_v4, main_v5, main_v6, main_v7]) :
    after (ops2 (F := F)) W (Proc.devRef .tc b) = W (Proc.devRef .tc b) :=
  after_of_writes_sub (W := [main_v4, main_v5, main_v6, main_v7]) ops2 W (forall_writes_sub_of_map rfl) hb
theorem V3_a0 (d : Dev nD) : V3 m d a0' = m (a0Loc d) := by
  unfold V3 V2 V1
  rw [kept2 _ (by decide), Function.update_of_ne (show a0' ≠ o' by decide), kept1 _ (by decide)]; rfl
theorem V3_a1 (d : Dev nD) : V3 m d a1' = m (a1Loc d) := by
  unfold V3 V2 V1
  rw [kept2 _ (by decide), Function.update_of_ne (show a1' ≠ o' by decide), kept1 _ (by decide)]; rfl
theorem V3_a2 (d : Dev nD) : V3 m d a2' = m (a2Loc d) := by
  unfold V3 V2 V1
  rw [kept2 _ (by decide), Function.update_of_ne (show a2' ≠ o' by decide), kept1 _ (by decide)]; rfl

/-- The tokens as rows. -/
def zs (d : Dev nD) : FVec F S9216x64 .f32 := shapeCast S9216x64 (m (a0Loc d)) shapeCasts_S16x576x64_S9216x64

theorem V2_z (d : Dev nD) : V2 m d z' = zs m d := by
  refine (Function.update_of_ne (show z' ≠ o' by decide) _ _).trans ?_
  unfold V1
  simp only [ops1, TRef.binary, TRef.nullary, TRef.ternary, TRef.unary, TRef.toBuf, TRef.ofBuf, cast_eq]
  after_results <;> rfl

theorem ks_eq (d : Dev nD) : ks m d = shapeCast S9216 (m (a2Loc d)) shapeCasts_S16x576_S9216 := by
  unfold ks V1
  simp only [ops1, TRef.binary, TRef.nullary, TRef.ternary, TRef.unary, TRef.toBuf, TRef.ofBuf, cast_eq]
  after_results <;> rfl

theorem tb_eq (d : Dev nD) : tb m d = pad S8192x128 ![0, 0] ![0, 64] ![0, 0] (m (a1Loc d)) (sitofp .f32 (constantI S_ 32 0#32))
    pads_S8192x64_S8192x128_000_0640 h_S_ := by
  unfold tb V1
  simp only [ops1, TRef.binary, TRef.nullary, TRef.ternary, TRef.unary, TRef.toBuf, TRef.ofBuf, cast_eq]
  after_results <;> rfl

/-- The result: each token plus the difference between its gathered row and itself. -/
def rF (d : Dev nD) : Buf (Elt F) (rLoc d) :=
  shapeCast S16x576x64 (addf (zs m d) (subf (extractStridedSlice S9216x64 ![0, 0] (outF (ks m) (tb m) d) slices_S9216x128_S9216x64_0_0) (zs m d)))
    shapeCasts_S9216x64_S16x576x64

theorem V3_r (d : Dev nD) : V3 m d r' = rF m d := by
  unfold V3 rF
  rw [← V2_z, ← V2_o]
  simp only [ops2]
  after_results <;> rfl

/-- What @main leaves: the arguments as they were, and the result. -/
abbrev FIN (d : Dev nD) : sProp (MM F) :=
  iprop((a0Loc d ↦{fullShare} m (a0Loc d)) ∗ (a1Loc d ↦{fullShare} m (a1Loc d)) ∗ (a2Loc d ↦{fullShare} m (a2Loc d)) ∗ rLoc d ↦{fullShare} rF m d)

theorem at_end (d : Dev nD) :
    (held (SparseCore.T d) (Pipeline.ucRefs τ sig) (after ops2 (V2 m d)) : sProp (MM F))
      = iprop(FIN m d ∗ held (SparseCore.T d) (Pipeline.ucRefs τ sig \ R4) (V3 m d)) := by
  show held (SparseCore.T d) (Pipeline.ucRefs τ sig) (V3 m d) = _
  rw [held_sub_split (SparseCore.T d) R4_sub, held_R4, V3_a0, V3_a1, V3_a2, V3_r]

theorem st0_eq (d : Dev nD) : (bigSep Finset.univ fun c : Fin ((K (F := F)).nCore 0) => (P (ks m) (tb m) (o₀ m)).st 0 d c)
    = (iprop((kLoc d ↦{fullShare} ks m d) ∗ (tLoc d ↦{fullShare} tb m d) ∗ oLoc d ↦{fullShare} o₀ m d) : sProp (MM F)) :=
  cores_all (ks m) (tb m) d (o₀ m d)
theorem dn0_eq (d : Dev nD) : (bigSep Finset.univ fun c : Fin ((K (F := F)).nCore 0) => (P (ks m) (tb m) (o₀ m)).dn 0 d c)
    = (iprop((kLoc d ↦{fullShare} ks m d) ∗ (tLoc d ↦{fullShare} tb m d) ∗ oLoc d ↦{fullShare} outF (ks m) (tb m) d) : sProp (MM F)) :=
  cores_all (ks m) (tb m) d (outF (ks m) (tb m) d)

/-- @main on the TensorCore: the operations before the call, the call, the operations after it. -/
theorem hmain (κ : GSem nD τ sig → ℕ) (d : Dev nD) :
    iprop((K (F := F)).ctx EH (P (ks m) (tb m) (o₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ ops1 ops1_sub ops1_fresh (V0 m d)) $$ [Hb Hheld]
  · isplitl [Hb] <;> iassumption
  iintro ⟨Hb, Hheld⟩
  ihave Hh := (Entails.of_eq (before_call (F := F) m d)) $$ Hheld
  icases Hh with ⟨Hcall, Hrest⟩
  rw [wp_bind]
  iapply ((K (F := F)).wp_run (D (F := F)) 𝒱 (EH := EH) (P := P (ks m) (tb m) (o₀ m)) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  rw [← bind_pure (seq ops2)]
  iapply (wp_seq 𝒱 none Set.univ d (Pipeline.ucRefs τ sig) _ ops2 ops2_sub ops2_fresh (V2 m d)) $$ [Hb Hdn' Hrest]
  · isplitl [Hb]; · iexact Hb
    rw [after_call]
    isplitl [Hdn'] <;> iassumption
  iintro ⟨Hb, Hheld⟩
  ihave Hh := (Entails.of_eq (at_end (F := F) m d)) $$ Hheld
  icases Hh with ⟨Hfin, -⟩
  rw [wp_pure]; imodintro
  isplitl [Hst]; · iexact Hst
  isplitl [Hfin]; · iexact Hfin
  isplitl [Hb] <;> iassumption

/-- What a claim reads of the final state: the arguments as they were, and the result. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (rLoc d) = rF m d

theorem hfin (d : Dev nD) (s' : Phys nD τ sig (Elt F)) : iprop(FIN m d ∗ SI s') ⊢ (⌜fq m d s'⌝ : sProp (MM F)) := by
  iintro ⟨⟨H0, H1, H2, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := rF m d)) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-- The final states of a run: each device's arguments as they were and its result, and every semaphore at zero. -/
def QC : PUnit × MemSt nD τ sig (Elt F) → Prop := fun r =>
  (∀ c : Dev nD, r.2.mem (a0Loc c) = m (a0Loc c) ∧ r.2.mem (a1Loc c) = m (a1Loc c) ∧ r.2.mem (a2Loc c) = m (a2Loc c) ∧ r.2.mem (rLoc c) = rF m c)
    ∧ r.2.sem = fun _ => 0

/-- Every run from codes in range ends with the arguments as they were, the result as stated and every semaphore at zero. -/
theorem run_main [∀ e, Nonempty (Elt F e)] (hk : InRange (ks m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (ks m) (tb m) (o₀ m)) (A := ∅) scFacts v₀
    (fun q hq => match q with | 0 => nomatch hq)
    (fun q _ => match q with | 0 => tileObl (ks m) (tb m) (o₀ m) scFacts hk)
    (fun q _ => match q with | 0 => SparseCore.Cfg.VecSplit.of_plain (vecSplit (ks m) (tb m) (o₀ m)))
    m ρ main (fun _ => iprop(emp)) (FIN m) (u₀ (F := F)) (sep_elim_left.trans (hu₀ (ks m) (tb m) (o₀ m))) (hmain m ρ) (fq m) (hfin m) (QC m) (fun _ h hz => ⟨h, hz⟩)

end Main

end Cert.GatherRun

end
-- ==== Proof.Taken.lean ====
/- The claims about the row gather and its reference. -/
module

public import proofs.«01_k».proof.Defs
public import proofs.«01_k».proof.Proof.GatherRun
public import proofs.«01_k».proof.Proof.RefVal
public import proofs.«01_k».proof.Proof.Agree
public import proofs.«01_k».proof.Proof.Gen.Gather
public import proofs.«01_k».proof.Proof.Gen.Pre_in_range
public import proofs.«01_k».proof.Proof.Gen.TakeIdeal.Run

@[expose] public section

set_option maxRecDepth 16384

noncomputable section

namespace Cert.Taken

open Idealize.ShloMosaic Idealize.ShloMosaic.TcCoe Idealize.SL.Sem
open Cert.GatherRun

abbrev S16x576 : Shape := ⟨2, ![16, 576]⟩
abbrev S16x576x64 : Shape := ⟨3, ![16, 576, 64]⟩
abbrev S8192x64 : Shape := ⟨2, ![8192, 64]⟩
abbrev S9216 : Shape := ⟨1, ![9216]⟩

/-! ## The precondition -/

/-- A code that passes both comparisons is below 8192. -/
theorem code_lt (v : BitVec 32) (h : IntOp.andi (IntOp.cmpi .sge v 0#32) (IntOp.cmpi .slt v 8192#32) = 1#1) : v.toNat < 8192 := by
  have both : ∀ p q : Bool, IntOp.andi (BitVec.ofBool p) (BitVec.ofBool q) = 1#1 → p = true ∧ q = true := by decide
  obtain ⟨h1, h2⟩ := both _ _ h
  simp only [BitVec.sle_eq_decide, BitVec.slt_eq_decide, decide_eq_true_eq, BitVec.toInt_eq_toNat_cond, BitVec.toNat_ofNat, Nat.reducePow, Nat.reduceMod] at h1 h2
  omega

/-- The precondition says that every code is below 8192. -/
theorem code_of_pre {F : FTy → Type} [FloatOps F] (Z : FVec F S16x576x64 .f32) (C : FVec F S8192x64 .f32) (k : IVec S16x576 32)
    (h : Cert.Pre_in_range.fn (F := F) Z C k = fun _ => 1#1) (j : S16x576.Idx) : (k j).toNat < 8192 := by
  have h0 := congrFun h (fun a => a.elim0)
  revert h0
  pointwise [Cert.Pre_in_range.fn]
  intro h0
  idx_vars j
  exact code_lt _ (Cert.Agree.fold_andi_univ _ h0 (j0, j1))

variable {F : FTy → Type} [FloatOps F]

/-- So are the codes the call is given. -/
theorem inRange (m : (ℓ : Loc Cert.GatherIdeal.nD Cert.GatherIdeal.τ Cert.GatherIdeal.sig) → Buf (Elt F) ℓ)
    (h : ∀ d, Cert.Pre_in_range.fn (F := F) (m (a0Loc d)) (m (a1Loc d)) (m (a2Loc d)) = fun _ => 1#1) : InRange (ks m) := fun d j => by
  rw [ks_eq]
  exact code_of_pre _ _ _ (h d) _

/-! ## The frames -/

/-- From codes in range, the gather terminates, keeps its arguments and leaves every counter at zero. -/
theorem frame_gather : Cert.quiescent_Gather := fun m ρ hpre =>
  (θ_run (Cert.GatherIdeal.defs (F := Bits)) _ _).mono (fun _ h => ⟨fun c => ⟨(h.1 c).1, (h.1 c).2.1, (h.1 c).2.2.1⟩, h.2⟩)
    (run_main (F := Bits) m ρ (inRange (F := Bits) m hpre))

/-- So does its idealization. -/
theorem frame_gather_ideal : Cert.quiescent_GatherIdeal := fun m ρ hpre =>
  (θ_run (Cert.GatherIdeal.defs (F := Ideal)) _ _).mono (fun _ h => ⟨fun c => ⟨(h.1 c).1, (h.1 c).2.1, (h.1 c).2.2.1⟩, h.2⟩)
    (run_main (F := Ideal) m ρ (inRange (F := Ideal) m hpre))

/-- The taking reference's frame. -/
theorem frame_take : Cert.quiescent_TakeIdeal := fun m ρ _ =>
  (θ_run Cert.TakeIdeal.defs _ _).mono (fun r h => ⟨fun c => (h c).2, sem_eq_zero_of_no_sems (by decide) r.2⟩) (Cert.TakeIdeal.Value.run (F := Ideal) m ρ)

theorem frame_take_in_range : Cert.quiescent_TakeIdeal_pre_in_range := fun m ρ _ => frame_take m ρ trivial

/-- No operation was rewritten. -/
theorem preserves : Cert.preserves_Gather_GatherIdeal := trivial

/-! ## The value -/

/-- Rows padded to 128 columns keep their first 64. -/
theorem padded (C : FVec F S8192x64 .f32) (v : FVec F Cert.GatherIdeal.S_ .f32) (r : Fin 8192) (c : Fin 64) :
    (pad Cert.GatherIdeal.S8192x128 ![0, 0] ![0, 64] ![0, 0] C v Cert.GatherIdeal.Gen.pads_S8192x64_S8192x128_000_0640 Cert.GatherIdeal.Gen.h_S_ :
      FVec F Cert.GatherIdeal.S8192x128 .f32) (ix2 r (⟨c.val, by omega⟩ : Fin 128)) = C (ix2 r c) := by
  pointwise

/-- The table given to the call has the codebook's entries in its first 64 columns. -/
theorem tb_apply (m : (ℓ : Loc Cert.GatherIdeal.nD Cert.GatherIdeal.τ Cert.GatherIdeal.sig) → Buf (Elt F) ℓ) (d : Dev Cert.GatherIdeal.nD)
    (r : Fin 8192) (c : Fin 64) : tb m d (ix2 r (⟨c.val, by omega⟩ : Fin 128)) = m (a1Loc d) (ix2 r c) := by
  rw [tb_eq]
  exact padded _ _ r c

/-- The gathered rows, their padding cut off, are the rows the reference takes. -/
theorem rows_eq (m : (ℓ : Loc Cert.GatherIdeal.nD Cert.GatherIdeal.τ Cert.GatherIdeal.sig) → Buf (Elt Ideal) ℓ) (d : Dev Cert.GatherIdeal.nD) (hk : InRange (ks m)) :
    (extractStridedSlice Cert.GatherIdeal.S9216x64 ![0, 0] (outF (ks m) (tb m) d) Cert.GatherIdeal.Gen.slices_S9216x128_S9216x64_0_0 : FVec Ideal Cert.GatherIdeal.S9216x64 .f32)
      = Cert.ReferenceIdeal.Terms.takeOf (F := Ideal) (m (a1Loc d)) (Cert.ReferenceIdeal.Terms.rowsOf (ks m d)) := by
  funext j
  idx_vars j
  have hb := hk d (ix1 j0)
  rw [Cert.ReferenceIdeal.Terms.takeOf_apply (m (a1Loc d)) _ j0 j1 (rowOf (ks m d (ix1 j0)))
    (Cert.ReferenceIdeal.Terms.rowsOf_apply _ j0 _ (by
      show ks m d (ix1 j0) = BitVec.ofNat 32 ((ks m d (ix1 j0)).toNat % 8192)
      rw [Nat.mod_eq_of_lt hb, BitVec.ofNat_toNat, BitVec.setWidth_eq]))]
  refine Eq.trans ?_ (tb_apply m d _ j1)
  pointwise
  rfl

/-- From codes in range, the gather's idealization and the taking reference leave the same result. -/
theorem algebraic : Cert.algebraic_GatherIdeal_TakeIdeal := by
  intro m g m' g' hpre hagree
  have hk := inRange (F := Ideal) m hpre
  refine ⟨fun c => rF m c,
    (θ_run (Cert.GatherIdeal.defs (F := Ideal)) _ _).mono (fun r h c => ⟨(h.1 c).2.2.2, (h.1 c).1, (h.1 c).2.1, (h.1 c).2.2.1⟩) (run_main (F := Ideal) m g hk),
    (θ_run Cert.TakeIdeal.defs _ _).mono (fun r h c => ⟨(h c).1.trans ?_, (h c).2⟩) (Cert.TakeIdeal.Value.run (F := Ideal) m' g')⟩
  rw [(hagree c).1, (hagree c).2.1, (hagree c).2.2]
  show _ = rF m c
  unfold rF
  rw [rows_eq m c hk, ks_eq]
  rfl

end Cert.Taken

end
-- ==== Proof.CountTile.lean ====
/- One tile's run of the counting: it fills its block of the shared counts, meets the other tiles, reads a half block back, counts the positive entries and writes its row of counts. -/
module

public import proofs.«01_k».proof.Proof.Gen.CountIdeal
public import proofs.«01_k».proof.Proof.Gen.CountIdeal.Skeleton
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.Claim
public import Idealize.ShloMosaic.Lib.Pointwise

@[expose] public section

set_option maxRecDepth 16384

noncomputable section

namespace Cert.CountRun

open Cert.CountIdeal Cert.CountIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UU : Type := UH × (UB × Counters)
/-- The ghost state of the run. -/
abbrev MM (F : FTy → Type) : Type := MT nD τ sig (HIx 1) (Elt F) ℕ UU ℕ
abbrev EH : Emb UH (MM F) := embL
/-- The barrier's rounds in it. -/
def EB : Emb UB (MM F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance

/-! ## The arrays of the call -/

abbrev xLoc (d : Dev nD) : Loc nD τ sig := (SparseCore.T d).loc main_v2
abbrev oLoc (d : Dev nD) : Loc nD τ sig := (SparseCore.T d).loc main_v3

abbrev xV : Memref sig .scVector .hbm S8192x16 .f32 := Memref.whole main_v2_scv
abbrev oV : Memref sig .scVector .hbm S32x16 .f32 := Memref.whole main_v3_scv
abbrev bV : Memref sig .scVector .vmem S256x16 .f32 := Memref.whole cc0_scratch0
abbrev aV : Memref sig .scVector .vmem S16 .f32 := Memref.whole cc0_scratch1
abbrev shV : Memref sig .scVector .shared S8192x16 .f32 := Memref.whole cc0_scratch2

/-- SparseCore `c`'s shared counts. -/
abbrev shRef (c : Fin τ.nSC) : DevRef τ sig := ⟨.shared, ⟨0, by decide⟩, c⟩
abbrev shLoc (d : Dev nD) (c : Fin τ.nSC) : Loc nD τ sig := (d, shRef c)

/-! ## Blocks of 512 rows, half blocks of 256 rows, rows of the result -/

theorem bdiv : 16 ∣ S8192x16.size 0 := ⟨512, rfl⟩
theorem hdiv : 32 ∣ S8192x16.size 0 := ⟨256, rfl⟩
theorem odiv : 32 ∣ S32x16.size 0 := ⟨1, rfl⟩
abbrev block (i : Fin 16) : Rect S8192x16 := Rect.part (s := S8192x16) (a₀ := 0) bdiv i
abbrev half (k : Fin 32) : Rect S8192x16 := Rect.part (s := S8192x16) (a₀ := 0) hdiv k
abbrev orow (w : Fin 32) : Rect S32x16 := Rect.part (s := S32x16) (a₀ := 0) odiv w
abbrev blockSet (i : Fin 16) : Finset S8192x16.Idx := (block i).set
abbrev halfSet (k : Fin 32) : Finset S8192x16.Idx := (half k).set
abbrev oSet (w : Fin 32) : Finset S32x16.Idx := (orow w).set

/-- The worker's number: two SparseCores to a subcore number. -/
def wid (c : Fin 2) (i : Fin 16) : Fin 32 := ⟨i.val * 2 + c.val, by omega⟩
/-- Subcore `j`'s half block in the first half of the rows, and in the second. -/
def lo (j : Fin 16) : Fin 32 := ⟨j.val, by omega⟩
def hi (j : Fin 16) : Fin 32 := ⟨16 + j.val, by omega⟩
/-- The half block a worker counts. -/
def halfOf (w : Fin 32) : Fin 32 := ⟨16 * (w.val % 2) + w.val / 2, by omega⟩

/-- SparseCore `c`'s share of the counts. -/
abbrev xq (c : Fin 2) : PosShare TreeShare := ShareLeaves.leaf 1 fullShare c

/-! ## The counting -/

section Count

variable [FloatOps F]

/-- Row `n` of a half block, as the loop loads it. -/
def rowOf (g : FVec F S256x16 .f32) (n : ℕ) : Vec F S1x16 .f32 := fun j => g (ix2 ⟨n % 256, Nat.mod_lt _ (by decide)⟩ (j 1))

/-- The running count over the first `n` rows. -/
def accOf (g : FVec F S256x16 .f32) : ℕ → FVec F S16 .f32
  | 0 => k0_pay1
  | n + 1 => k0_pay2 (accOf g n) (rowOf g n)

end Count

variable (x : (d : Dev nD) → Buf (Elt F) (xLoc d)) (o₀ : (d : Dev nD) → Buf (Elt F) (oLoc d))

/-- The rows of half block `k`. -/
def bufF (d : Dev nD) (k : Fin 32) : FVec F S256x16 .f32 := fun j => x d (ix2 (⟨256 * k.val + (j 0).val, by have := (j 0).isLt; change _ < 256 at this; omega⟩ : Fin 8192) (j 1))

/-- The result: row `w` is worker `w`'s counts. -/
def outF [FloatOps F] (d : Dev nD) : Buf (Elt F) (oLoc d) := fun j : S32x16.Idx => accOf (bufF x d (halfOf (j 0))) 256 (ix1 (j 1))

/-- The counts as the shared array holds them. -/
def shF (d : Dev nD) (c : Fin τ.nSC) : Buf (Elt F) (shLoc d c) := x d

abbrev xPts (d : Dev nD) (c : Fin 2) (i : Fin 16) : sProp (MM F) := xLoc d ↦[blockSet i]{xq c} x d
abbrev oPts (d : Dev nD) (w : Fin 32) (f : Buf (Elt F) (oLoc d)) : sProp (MM F) := oLoc d ↦[oSet w]{fullShare} f
abbrev blockPts (d : Dev nD) (c : Fin τ.nSC) (i : Fin 16) (f : Buf (Elt F) (shLoc d c)) : sProp (MM F) := shLoc d c ↦[blockSet i]{fullShare} f
abbrev halfPts (d : Dev nD) (c : Fin τ.nSC) (k : Fin 32) (f : Buf (Elt F) (shLoc d c)) : sProp (MM F) := shLoc d c ↦[halfSet k]{fullShare} f

/-! ## The blocks and their halves -/

theorem block_disjoint : ∀ i ∈ (Finset.univ : Finset (Fin 16)), ∀ j ∈ (Finset.univ : Finset (Fin 16)), i ≠ j → Disjoint (blockSet i) (blockSet j) :=
  fun _ _ _ _ h => Rect.part_disjoint bdiv h
theorem half_disjoint : ∀ i ∈ (Finset.univ : Finset (Fin 32)), ∀ j ∈ (Finset.univ : Finset (Fin 32)), i ≠ j → Disjoint (halfSet i) (halfSet j) :=
  fun _ _ _ _ h => Rect.part_disjoint hdiv h
theorem orow_disjoint : ∀ i ∈ (Finset.univ : Finset (Fin 32)), ∀ j ∈ (Finset.univ : Finset (Fin 32)), i ≠ j → Disjoint (oSet i) (oSet j) :=
  fun _ _ _ _ h => Rect.part_disjoint odiv h
theorem block_cover : (Finset.univ : Finset (Fin 16)).biUnion blockSet = Finset.univ := Rect.biUnion_part bdiv
theorem half_cover : (Finset.univ : Finset (Fin 32)).biUnion halfSet = Finset.univ := Rect.biUnion_part hdiv
theorem orow_cover : (Finset.univ : Finset (Fin 32)).biUnion oSet = Finset.univ := Rect.biUnion_part odiv

theorem mem_block (i : Fin 16) (j : S8192x16.Idx) : j ∈ blockSet i ↔ (j 0).val / 512 = i.val := by
  have h0 : (j 0).val < 8192 := (j 0).isLt
  have h1 : (j 1).val < 16 := (j 1).isLt
  refine Rect.mem_set_unit.trans (Fin.forall_fin_two.trans ?_)
  simp only [Shape.partIx, Shape.partSize, Matrix.cons_val_zero, Matrix.cons_val_one, ↓reduceIte, one_ne_zero, Nat.reduceDiv]
  omega
theorem mem_half (k : Fin 32) (j : S8192x16.Idx) : j ∈ halfSet k ↔ (j 0).val / 256 = k.val := by
  have h0 : (j 0).val < 8192 := (j 0).isLt
  have h1 : (j 1).val < 16 := (j 1).isLt
  refine Rect.mem_set_unit.trans (Fin.forall_fin_two.trans ?_)
  simp only [Shape.partIx, Shape.partSize, Matrix.cons_val_zero, Matrix.cons_val_one, ↓reduceIte, one_ne_zero, Nat.reduceDiv]
  omega

/-- A block is its two half blocks. -/
theorem block_halves (i : Fin 16) : blockSet i = ((Finset.univ : Finset (Fin 32)).filter fun k => i.val = k.val / 2).biUnion halfSet := by
  ext j
  have hj : (j 0).val < 8192 := (j 0).isLt
  simp only [Finset.mem_biUnion, Finset.mem_filter, Finset.mem_univ, true_and, mem_block, mem_half]
  constructor
  · intro h
    exact ⟨⟨(j 0).val / 256, by omega⟩, by show i.val = (j 0).val / 256 / 2; omega, rfl⟩
  · rintro ⟨k, h1, h2⟩
    omega

/-- The thirty-two half blocks, by halves of the rows. -/
def pairsH : Fin 2 × Fin 16 ≃ Fin 32 where
  toFun p := ⟨16 * p.1.val + p.2.val, by omega⟩
  invFun k := (⟨k.val / 16, by omega⟩, ⟨k.val % 16, Nat.mod_lt _ (by decide)⟩)
  left_inv p := by
    obtain ⟨b, j⟩ := p
    refine Prod.ext (Fin.ext ?_) (Fin.ext ?_) <;> simp only [] <;> omega
  right_inv k := Fin.ext (by simp only []; omega)

theorem by_halves (Φ : Fin 32 → sProp (MM F)) :
    bigSep Finset.univ Φ = iprop((bigSep Finset.univ fun j : Fin 16 => Φ (lo j)) ∗ bigSep Finset.univ fun j : Fin 16 => Φ (hi j)) := by
  rw [bigSep_univ_equiv pairsH Φ, bigSep_univ_prod, show (Finset.univ : Finset (Fin 2)) = {0, 1} by decide,
    SparseCore.bigSep_insert' (by decide), bigSep_singleton]
  rw [show (bigSep Finset.univ fun j : Fin 16 => Φ (pairsH (0, j))) = bigSep Finset.univ fun j : Fin 16 => Φ (lo j) from
    bigSep_congr fun j _ => congrArg Φ (Fin.ext (by simp [pairsH, lo]))]
  rfl

theorem blockPts_halves (d : Dev nD) (c : Fin τ.nSC) (i : Fin 16) (f : Buf (Elt F) (shLoc d c)) :
    blockPts d c i f = (iprop((bigSep Finset.univ fun j : Fin 16 => if i.val = (lo j).val / 2 then halfPts d c (lo j) f else iprop(emp))
      ∗ bigSep Finset.univ fun j : Fin 16 => if i.val = (hi j).val / 2 then halfPts d c (hi j) f else iprop(emp)) : sProp (MM F)) := by
  rw [← by_halves fun k => if i.val = k.val / 2 then halfPts d c k f else iprop(emp)]
  unfold blockPts
  rw [block_halves]
  refine (pointsTo_biUnion (ℓ := shLoc d c) (q := fullShare) (f := f) _ halfSet
    (fun a _ b _ h => half_disjoint a (Finset.mem_univ _) b (Finset.mem_univ _) h)).trans ?_
  rw [bigSep_filter]; rfl

/-! ## The barrier -/

/-- Tile `(c, j)`'s barrier semaphore. -/
abbrev bcell (d : Dev nD) (c : Fin τ.nSC) (j : Fin τ.nSub) : GSem nD τ sig := (V d c j, .reg sc_bar0)

theorem bar_ne_go : (sc_bar0 : Sem sig) ≠ sc_go := by decide

def isBar (g : GSem nD τ sig) : Bool :=
  match g with
  | ((_, .scVector _ _), sm) => decide (sm = .reg sc_bar0)
  | _ => false

theorem isBar_bcell (d : Dev nD) (c : Fin τ.nSC) (j : Fin τ.nSub) : isBar (bcell d c j) = true := by simp [isBar]

/-- What tile `n`'s arrival at tile `j`'s round hands over: the filled half blocks `j` and `16 + j`, if tile `n` filled them. -/
def handed (g : GSem nD τ sig) (n : ℕ) : sProp (MM F) :=
  match g with
  | ((d, .scVector c j), _) =>
      iprop((if n = (lo (Fin.cast nSub_eq j)).val / 2 then halfPts d c (lo (Fin.cast nSub_eq j)) (shF x d c) else iprop(emp))
        ∗ (if n = (hi (Fin.cast nSub_eq j)).val / 2 then halfPts d c (hi (Fin.cast nSub_eq j)) (shF x d c) else iprop(emp)))
  | _ => iprop(emp)

/-- The barrier's schedule: one round at each tile, with one arrival of each tile of its SparseCore. -/
def bRd : Rounds.Schedule (GSem nD τ sig) ℕ (MM F) where
  duties g r := if isBar g ∧ r = 0 then (Finset.univ : Finset (Fin τ.nSub)).image Fin.val else ∅
  amount _ _ _ := 1
  payload g _ n := handed x g n
  amount_pos _ _ _ _ := Nat.one_pos

instance handed_storable (g : GSem nD τ sig) (r n : ℕ) : BI.Storable (upEmb : UEmb _ (MM F)) ((bRd x).payload g r n) := by
  show BI.Storable upEmb (handed x g n)
  unfold handed
  rcases g with ⟨⟨d, _ | c | ⟨c, i⟩⟩, sm⟩ <;> dsimp only <;> (repeat' split) <;> infer_instance

theorem duties_zero (d : Dev nD) (c : Fin τ.nSC) (j : Fin τ.nSub) : (bRd x).duties (bcell d c j) 0 = (Finset.univ : Finset (Fin τ.nSub)).image Fin.val := by
  simp [bRd, isBar]
theorem duties_later (g : GSem nD τ sig) (r : ℕ) (hr : 1 ≤ r) : (bRd x).duties g r = ∅ :=
  if_neg fun h => absurd h.2 (Nat.ne_of_gt hr)
theorem duty_mem (d : Dev nD) (c : Fin τ.nSC) (j i : Fin τ.nSub) : i.val ∈ (bRd x).duties (bcell d c j) 0 := by
  rw [duties_zero]; exact Finset.mem_image_of_mem _ (Finset.mem_univ i)
theorem expected (d : Dev nD) (c : Fin τ.nSC) (j : Fin τ.nSub) : 0 + grid0.bound 1 = (bRd x).expect (bcell d c j) 0 := by
  unfold Rounds.Schedule.expect; rw [duties_zero]
  show 0 + 16 = ∑ y ∈ (Finset.univ : Finset (Fin 16)).image Fin.val, 1
  rw [Finset.sum_const, Finset.card_image_of_injective _ Fin.val_injective]; rfl

/-- What a tile of SparseCore `c` owes: one arrival at each of its tiles. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch gives tile `(c, i)` for the barrier: its SparseCore's cells, its arrivals, its place in its own round and the arrivals it may take. -/
def bkit (d : Dev nD) (c : Fin τ.nSC) (i : Fin τ.nSub) : sProp (MM F) :=
  iprop((∃ κ : GSem nD τ sig → ℕ, bigSep Finset.univ fun j : Fin (grid0.bound 1) =>
      cellInv EB (bRd x) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-- A filled block is what its tile's arrivals hand over. -/
theorem handed_intro (d : Dev nD) (c : Fin τ.nSC) (i : Fin 16) :
    blockPts d c i (shF x d c) ⊢ (bigSep Finset.univ fun j : Fin (grid0.bound 1) => (bRd x).payload (bcell d c (j.castLE hsub0)) 0 i.val : sProp (MM F)) := by
  rw [blockPts_halves, ← bigSep_sep']
  exact Entails.of_eq rfl

/-- The arrivals at tile `j`'s round have handed it half blocks `j` and `16 + j`. -/
theorem handed_elim (d : Dev nD) (c : Fin τ.nSC) (j : Fin τ.nSub) :
    (bigSep ((bRd x).duties (bcell d c j) 0 \ ∅) fun n => (bRd x).payload (bcell d c j) 0 n)
      ⊢ (iprop(halfPts d c (lo (Fin.cast nSub_eq j)) (shF x d c) ∗ halfPts d c (hi (Fin.cast nSub_eq j)) (shF x d c)) : sProp (MM F)) := by
  rw [Finset.sdiff_empty, duties_zero, SparseCore.bigSep_image_of_injOn (fun a _ b _ e => Fin.ext e)]
  show (bigSep Finset.univ fun n : Fin τ.nSub => iprop((if n.val = (lo (Fin.cast nSub_eq j)).val / 2 then halfPts d c (lo (Fin.cast nSub_eq j)) (shF x d c) else iprop(emp))
        ∗ (if n.val = (hi (Fin.cast nSub_eq j)).val / 2 then halfPts d c (hi (Fin.cast nSub_eq j)) (shF x d c) else iprop(emp)))) ⊢ _
  rw [bigSep_sep']
  have hk : ∀ k : Fin 32, (bigSep Finset.univ fun n : Fin τ.nSub => if n.val = k.val / 2 then halfPts d c k (shF x d c) else iprop(emp))
      ⊢ (halfPts d c k (shF x d c) : sProp (MM F)) := fun k => by
    have hlt : k.val / 2 < τ.nSub := by show _ < 16; omega
    refine BI.Entails.trans (bigSep_elim (i := (⟨k.val / 2, hlt⟩ : Fin τ.nSub)) (Finset.mem_univ _)) ?_
    rw [if_pos rfl]
    exact BI.Entails.refl _
  exact BI.sep_mono (hk _) (hk _)

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := wid (cL L) (jL L)

abbrev blkRect (L : grid0.Coords) : Rect S8192x16 := Rect.unit (s := S8192x16) (k0_off1 L) S512x16.size (k0_off1_inb L)
abbrev halfRect (L : grid0.Coords) : Rect S8192x16 := Rect.unit (s := S8192x16) (k0_off2 L) S256x16.size (k0_off2_inb L)
abbrev oRect (L : grid0.Coords) : Rect S32x16 := Rect.unit (s := S32x16) (k0_off4 L) S1x16.size (k0_off4_inb L)
/-- The tile's block of the counts and of the shared counts, the half block it reads back, and its row of the result, as the task addresses them. -/
abbrev xMine (L : grid0.Coords) : Memref sig .scVector .hbm S512x16 .f32 := (xV).slice (blkRect L) (fun _ => rfl)
abbrev shMine (L : grid0.Coords) : Memref sig .scVector .shared S512x16 .f32 := (shV).slice (blkRect L) (fun _ => rfl)
abbrev shHalf (L : grid0.Coords) : Memref sig .scVector .shared S256x16 .f32 := (shV).slice (halfRect L) (fun _ => rfl)
abbrev oMine (L : grid0.Coords) : Memref sig .scVector .hbm S16 .f32 := ((oV).slice (oRect L) (fun _ => rfl)).squeeze S16 squeezes_S1x16_S16

omit [FloatOps F] in
theorem blkRect_eq : blkRect L = block (jL L) := by
  unfold blkRect block Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]
omit [FloatOps F] in
theorem halfRect_eq : halfRect L = half (halfOf (wL L)) := by
  have h0 : (L 0).val < 2 := (L 0).isLt
  unfold halfRect half Rect.part Rect.block
  congr 1 <;> funext a
  · rw [k0_off2_eq]
    match a with
    | 0 => simp [Shape.partIx, Shape.partSize, wid, halfOf]; omega
    | 1 => simp [Shape.partIx, Shape.partSize]
  · match a with
    | 0 => simp [Shape.partSize]
    | 1 => simp [Shape.partSize]
omit [FloatOps F] in
theorem oRect_eq : oRect L = orow (wL L) := by
  unfold oRect orow Rect.part Rect.block
  congr 1 <;> funext a
  · rw [k0_off4_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_xMine : (xMine L).view.set = blockSet (jL L) :=
  (View.set_slice_whole _ _).trans (by rw [blkRect_eq L])
omit [FloatOps F] in
theorem set_shMine : (shMine L).view.set = blockSet (jL L) :=
  (View.set_slice_whole _ _).trans (by rw [blkRect_eq L])
omit [FloatOps F] in
theorem set_shHalf : (shHalf L).view.set = halfSet (halfOf (wL L)) :=
  (View.set_slice_whole _ _).trans (by rw [halfRect_eq L])
omit [FloatOps F] in
theorem set_oMine : (oMine L).view.set = oSet (wL L) := by
  show (((oV).view.slice (oRect L)).reshape S16 squeezes_S1x16_S16.numel_eq).set = _
  rw [View.set_reshape]
  exact (View.set_slice_whole _ _).trans (congrArg (fun r : Rect S32x16 => r.set) (oRect_eq L))

omit [FloatOps F] in
theorem pts_xMine (q : PosShare TreeShare) (f : Buf (Elt F) (xLoc d)) :
    ((xMine L).view.loc (V d (cV L) (jV L)) ↦[(xMine L).view.set]{q} f : sProp (MM F)) = xLoc d ↦[blockSet (jL L)]{q} f := by
  rw [set_xMine]
omit [FloatOps F] in
theorem pts_shMine (f : Buf (Elt F) (shLoc d (cV L))) :
    ((shMine L).view.loc (V d (cV L) (jV L)) ↦[(shMine L).view.set]{fullShare} f : sProp (MM F)) = blockPts d (cV L) (jL L) f := by
  rw [set_shMine]; rfl
omit [FloatOps F] in
theorem pts_shHalf (f : Buf (Elt F) (shLoc d (cV L))) :
    ((shHalf L).view.loc (V d (cV L) (jV L)) ↦[(shHalf L).view.set]{fullShare} f : sProp (MM F)) = halfPts d (cV L) (halfOf (wL L)) f := by
  rw [set_shHalf]; rfl
omit [FloatOps F] in
theorem pts_oMine (f : Buf (Elt F) (oLoc d)) :
    ((oMine L).view.loc (V d (cV L) (jV L)) ↦[(oMine L).view.set]{fullShare} f : sProp (MM F)) = oLoc d ↦[oSet (wL L)]{fullShare} f := by
  rw [set_oMine]
omit [FloatOps F] in
theorem pts_bV (f : Buf (Elt F) ((V d (cV L) (jV L)).loc cc0_scratch0)) :
    ((bV).view.loc (V d (cV L) (jV L)) ↦{fullShare} f : sProp (MM F)) = (V d (cV L) (jV L)).loc cc0_scratch0 ↦{fullShare} f := rfl
omit [FloatOps F] in
theorem pts_aV (f : Buf (Elt F) ((V d (cV L) (jV L)).loc cc0_scratch1)) :
    ((aV).view.loc (V d (cV L) (jV L)) ↦{fullShare} f : sProp (MM F)) = (V d (cV L) (jV L)).loc cc0_scratch1 ↦{fullShare} f := rfl

/-- Of a tile's two half blocks, the one it reads and the one it leaves. -/
def otherOf (L : grid0.Coords) : Fin 32 := if (L 0).val = 0 then hi (jL L) else lo (jL L)
omit [FloatOps F] in
theorem read_first : (L 0).val = 0 → halfOf (wL L) = lo (jL L) := fun h => by
  have h1 : (L 1).val < 16 := (L 1).isLt
  exact Fin.ext (by simp [halfOf, wid, lo]; omega)
omit [FloatOps F] in
theorem read_second : (L 0).val ≠ 0 → halfOf (wL L) = hi (jL L) := fun h => by
  have h0 : (L 0).val < 2 := (L 0).isLt
  have h1 : (L 1).val < 16 := (L 1).isLt
  exact Fin.ext (by simp [halfOf, wid, hi]; omega)
omit [FloatOps F] in
theorem halves_in (Φ : Fin 32 → sProp (MM F)) : iprop(Φ (lo (jL L)) ∗ Φ (hi (jL L))) ⊢ iprop(Φ (halfOf (wL L)) ∗ Φ (otherOf L)) := by
  rcases eq_or_ne (L 0).val 0 with h | h
  · rw [read_first L h]; unfold otherOf; rw [if_pos h]
  · rw [read_second L h]; unfold otherOf; rw [if_neg h]
    iintro ⟨H1, H2⟩
    isplitl [H2] <;> iassumption
omit [FloatOps F] in
theorem halves_out (Φ : Fin 32 → sProp (MM F)) : iprop(Φ (halfOf (wL L)) ∗ Φ (otherOf L)) ⊢ iprop(Φ (lo (jL L)) ∗ Φ (hi (jL L))) := by
  rcases eq_or_ne (L 0).val 0 with h | h
  · rw [read_first L h]; unfold otherOf; rw [if_pos h]
  · rw [read_second L h]; unfold otherOf; rw [if_neg h]
    iintro ⟨H1, H2⟩
    isplitl [H2] <;> iassumption

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)
abbrev cC (d : Dev nD) (c : Fin τ.nSC) (i : Fin τ.nSub) : GSem nD τ sig := (V d c i, .dma cc0_scoped2.sem)

omit [FloatOps F] in
/-- The tile's three transfer counters are among its own. -/
theorem ownSems0_V :
    (ownSems0 (V d (cV L) (jV L)) : sProp (MM F))
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped2.sem : SemLoc sig).isScoped .scVector = true; decide⟩⟩⟩)]

omit [FloatOps F] in
/-- The two scratch buffers are among the tile's own. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The tile's block of the shared counts holds the counts once they are copied there. -/
theorem pts_filled (f : Buf (Elt F) (shLoc d (cV L))) (pay : S512x16.Idx → Elt F .f32) (h : pay = (xMine L).view.read (Elt F) (x d)) :
    ((shMine L).view.loc (V d (cV L) (jV L)) ↦[(shMine L).view.set]{fullShare} (shMine L).view.writes (Elt F) f [⟨Rect.whole S512x16, pay⟩] : sProp (MM F))
      = blockPts d (cV L) (jL L) (shF x d (cV L)) := by
  subst h
  rw [← pts_shMine d L]
  refine pointsTo_congr fun i hi => ?_
  obtain ⟨y, -, rfl⟩ := Finset.mem_map.mp hi
  have hy : (shMine L).view.emb y = ((shMine L).view.slice (Rect.whole S512x16)).emb y := by
    rw [View.emb_slice]
    exact congrArg (shMine L).view.emb (Rect.emb_whole_apply S512x16 y).symm
  rw [View.writes_singleton, hy, View.write_emb_of_mem _ _ (Finset.mem_univ y), ← hy]
  exact (cast_eq _ _).trans ((View.read_apply _ _).trans (cast_eq _ _))

omit [FloatOps F] in
/-- The half block the tile reads back lands in its scratch as those rows of the counts. -/
theorem landed (f : Buf (Elt F) ((V d (cV L) (jV L)).loc cc0_scratch0)) (pay : S256x16.Idx → Elt F .f32)
    (h : pay = (shHalf L).view.read (Elt F) (shF x d (cV L))) :
    View.write (Elt F) (bV).view f pay Finset.univ = bufF x d (halfOf (wL L)) := by
  subst h
  rw [View.write_whole_univ]
  funext y
  have h0 : (L 0).val < 2 := (L 0).isLt
  refine ((View.read_apply _ _).trans (cast_eq _ _)).trans ?_
  refine congrArg (x d) (funext fun a => Fin.ext ?_)
  match a with
  | ⟨0, _⟩ =>
    show (k0_off2 L) 0 + 1 * (y 0).val = 256 * (halfOf (wL L)).val + (y 0).val
    rw [k0_off2_eq]
    show 4096 * (L 0).val + 256 * (L 1).val + 1 * (y 0).val = 256 * (16 * (((L 1).val * 2 + (L 0).val) % 2) + ((L 1).val * 2 + (L 0).val) / 2) + (y 0).val
    omega
  | ⟨1, _⟩ =>
    show (k0_off2 L) 1 + 1 * (y 1).val = (y 1).val
    rw [k0_off2_eq]
    show 0 + 1 * (y 1).val = (y 1).val
    omega

omit [FloatOps F] in
/-- The accumulator's row, once stored. -/
theorem acc_stored (fa : Buf (Elt F) ((V d (cV L) (jV L)).loc cc0_scratch1)) (v : FVec F S16 .f32) :
    (aV).view.writes (Elt F) fa [⟨Rect.unit ![0] ![16] inb_S16_S16_0, k0_pay3 v⟩] = v := by
  funext y
  have hy : y = ((aV).view.slice (Rect.unit ![0] ![16] inb_S16_S16_0)).emb y := by
    rw [View.emb_slice]
    funext a
    match a with
    | ⟨0, _⟩ => exact Fin.ext (by show (y 0).val = 0 + 1 * (y 0).val; omega)
  rw [View.writes_singleton]
  conv_lhs => rw [hy]
  rw [View.write_emb_of_mem _ _ (Finset.mem_univ y)]
  refine (cast_eq _ _).trans ?_
  unfold k0_pay3
  rw [shapeCast_self]

omit [FloatOps F] in
/-- A trip's load reads its row. -/
theorem row_read (g : FVec F S256x16 .f32) (k : Fin (Scf.trips k0_t1_loop.lb k0_t1_loop.ub k0_t1_loop.st)) :
    View.readAt (Elt F) (bV).view (Rect.unit (s := S256x16) (k0_off3 k) S1x16.size (k0_off3_inb k)).toLoadRect g = rowOf g k.val := by
  have hk : k.val < 256 := k.isLt
  funext y
  have hy : (y 0).val < 1 := (y 0).isLt
  refine ((View.read_apply _ _).trans (cast_eq _ _)).trans ?_
  refine congrArg g (funext fun a => Fin.ext ?_)
  match a with
  | ⟨0, _⟩ =>
    show (k0_off3 k) 0 + 1 * (y 0).val = k.val % 256
    have e0 : (k0_off3 k) 0 = k.val := congrFun (k0_off3_eq k) 0
    rw [Nat.mod_eq_of_lt hk]; omega
  | ⟨1, _⟩ =>
    show (k0_off3 k) 1 + 1 * (y 1).val = (y 1).val
    have e1 : (k0_off3 k) 1 = 0 := congrFun (k0_off3_eq k) 1
    omega

omit [FloatOps F] in
/-- Element `y` of the row a tile writes is element `(w, y)` of the result. -/
theorem emb_oMine (y : S16.Idx) : (oMine L).view.emb y = (ix2 (wL L) (y 0) : S32x16.Idx) := by
  show (oRect L).emb (Shape.reshapeEquiv squeezes_S1x16_S16.numel_eq y) = _
  rw [show Shape.reshapeEquiv squeezes_S1x16_S16.numel_eq y = (ix2 (0 : Fin 1) (y 0) : S1x16.Idx) from
    Shape.reshapeEquiv_eq_of_rowMajor squeezes_S1x16_S16.numel_eq (by
      rw [Shape.rowMajor_val_two, Shape.rowMajor_val_one]
      show 0 * 16 + (y 0).val = (y 0).val
      omega)]
  funext a
  refine Fin.ext ?_
  match a with
  | ⟨0, _⟩ =>
    show (k0_off4 L) 0 + 1 * 0 = (L 1).val * 2 + (L 0).val
    rw [k0_off4_eq]
    show 2 * (L 1).val + (L 0).val + 1 * 0 = (L 1).val * 2 + (L 0).val
    omega
  | ⟨1, _⟩ =>
    show (k0_off4 L) 1 + 1 * (y 0).val = (y 0).val
    rw [k0_off4_eq]
    show 0 + 1 * (y 0).val = (y 0).val
    omega

/-- The tile's row of the result, once written. -/
theorem pts_written (f : Buf (Elt F) (oLoc d)) (pay : S16.Idx → Elt F .f32) (h : pay = accOf (bufF x d (halfOf (wL L))) 256) :
    ((oMine L).view.loc (V d (cV L) (jV L)) ↦[(oMine L).view.set]{fullShare} (oMine L).view.writes (Elt F) f [⟨Rect.whole S16, pay⟩] : sProp (MM F))
      = oPts d (wL L) (outF x d) := by
  subst h
  refine Eq.trans ?_ (pts_oMine d L _)
  refine pointsTo_congr fun i hi => ?_
  obtain ⟨y, -, rfl⟩ := Finset.mem_map.mp hi
  have hy : (oMine L).view.emb y = ((oMine L).view.slice (Rect.whole S16)).emb y := by
    rw [View.emb_slice]
    exact congrArg (oMine L).view.emb (Rect.emb_whole_apply S16 y).symm
  rw [View.writes_singleton, hy, View.write_emb_of_mem _ _ (Finset.mem_univ y), ← hy]
  refine (cast_eq _ _).trans ?_
  rw [emb_oMine]
  show _ = accOf (bufF x d (halfOf (wL L))) 256 (ix1 (y 0))
  exact congrArg _ (funext fun a => match a with | ⟨0, _⟩ => rfl)

/-- What the loop keeps: the half block in the scratch, and the count over the rows read so far. -/
def inv (g : FVec F S256x16 .f32) (n : ℕ) (acc : FVec F S16 .f32) : sProp (MM F) :=
  iprop(⌜acc = accOf g n⌝ ∗ ((bV).view.loc (V d (cV L) (jV L)) ↦{fullShare} g))

set_option maxHeartbeats 4000000 in
/-- The task on one tile. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit x d (cV L) (jV L)
        ∗ (xPts x d (cL L) (jL L) ∗ oPts d (wL L) (o₀ d) ∗ ∃ f, blockPts d (cV L) (jL L) f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_count_body L xV (Memref.isWhole_whole _) oV (Memref.isWhole_whole _) bV (Memref.isWhole_whole _)
            aV (Memref.isWhole_whole _) shV (Memref.isWhole_whole _) cc0_scoped0 cc0_scoped1 cc0_scoped2)
          fun _ => iprop(((xPts x d (cL L) (jL L) ∗ oPts d (wL L) (outF x d) ∗ halfPts d (cV L) (lo (jL L)) (shF x d (cV L)) ∗ halfPts d (cV L) (hi (jL L)) (shF x d (cV L)))
              ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__sc_count_body_eq_skeleton]; unfold cc0__sc_count_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hx, Ho, %fsh, Hsh⟩, ⟨⟨%fb, Hb⟩, ⟨%fa, Ha⟩, Hbufs⟩, ⟨HsemA, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xMine (F := F) d L _ _).symm) $$ Hx
  ihave Ho' := (Entails.of_eq (pts_oMine (F := F) d L _).symm) $$ Ho
  ihave Hsh' := (Entails.of_eq (pts_shMine (F := F) d L _).symm) $$ Hsh
  ihave Hb' := (Entails.of_eq (pts_bV (F := F) d L _).symm) $$ Hb
  ihave Ha' := (Entails.of_eq (pts_aV (F := F) d L _).symm) $$ Ha
  -- the block filled
  sl_exec
  -- the barrier: the filled half blocks handed over, two taken
  ihave Hfilled := (Entails.of_eq (pts_filled x d L fsh (tile_body.sl.dma0 x d L) rfl)) $$ Hsh'
  ihave Hpays := (handed_intro x d (cV L) (jL L)) $$ Hfilled
  simp only [bind_assoc]
  iapply (SparseCore.wp_subcoreBarrier 𝒱₀ none EB (bRd x) d (sc := cV L) (i := jV L) sc_bar0 (grid0.bound 1) hsub0 (L 1) rfl κ (fun _ => 0) (jV L).val
      (fun j => duty_mem x d _ _ _) (fun _ => rfl) (expected x d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (bRd x) (g := bcell d (cV L) (jV L)) (Set.mem_univ (κ _)) (fun h => h) (duties_later x _)) $$ [Hat] with Hbar
  · isplitr
    · iapply (SparseCore.ent (bigSep_elim (Φ := fun j : Fin (grid0.bound 1) =>
        (cellInv EB (bRd x) (κ (bcell d (cV L) (j.castLE hsub0))) (bcell d (cV L) (j.castLE hsub0)) : sProp (MM F))) (Finset.mem_univ (L 1)))); iexact Hinv
    · iexact Hat
  ihave Htwo := (show _ ⊢ iprop(halfPts d (cV L) (lo (jL L)) (shF x d (cV L)) ∗ halfPts d (cV L) (hi (jL L)) (shF x d (cV L))) from
    handed_elim x d (cV L) (jV L)) $$ Hgot
  ihave Htwo' := (halves_in L fun k => halfPts d (cV L) k (shF x d (cV L))) $$ Htwo
  icases Htwo' with ⟨Hread, Hother⟩
  ihave Hread' := (Entails.of_eq (pts_shHalf (F := F) d L _).symm) $$ Hread
  -- the half block read back
  ihave Hb := (show ((V d (cV L) (jV L)).loc cc0_scratch0 ↦{fullShare} fb : sProp (MM F)) ⊢ (bV).view.loc (V d (cV L) (jV L)) ↦{fullShare} fb from
    Entails.of_eq (pts_bV (F := F) d L _).symm) $$ Hb'
  ihave Ha := (show ((V d (cV L) (jV L)).loc cc0_scratch1 ↦{fullShare} fa : sProp (MM F)) ⊢ (aV).view.loc (V d (cV L) (jV L)) ↦{fullShare} fa from
    Entails.of_eq (pts_aV (F := F) d L _).symm) $$ Ha'
  sl_exec
  ihave Hb2 := (show ((bV).view.loc (V d (cV L) (jV L)) ↦{fullShare} View.write (Elt F) (bV).view fb (tile_body.sl.dma0_1 x d L) Finset.univ : sProp (MM F))
      ⊢ (bV).view.loc (V d (cV L) (jV L)) ↦{fullShare} bufF x d (halfOf (wL L)) from
    Entails.of_eq (by rw [landed x d L fb (tile_body.sl.dma0_1 x d L) rfl])) $$ Hb
  -- the count
  sl_for (inv d L (bufF x d (halfOf (wL L)))) $$ [Hb2]
  case region =>
    intro k acc
    unfold inv
    iintro ⟨%hacc, Hb⟩
    sl_exec
    sl_step
    isplitr
    · ipureintro; rw [row_read, hacc]; rfl
    iexact Hb
  · unfold inv
    isplitr; · ipureintro; rfl
    iexact Hb2
  iintro %acc HI
  unfold inv
  icases HI with ⟨%hacc, Hb⟩
  sl_exec
  ihave Ha1 := (show ((aV).view.loc (V d (cV L) (jV L)) ↦{fullShare} (aV).view.writes (Elt F) fa [⟨Rect.unit ![0] ![16] inb_S16_S16_0, k0_pay3 acc⟩] : sProp (MM F))
      ⊢ (aV).view.loc (V d (cV L) (jV L)) ↦{fullShare} acc from Entails.of_eq (by rw [acc_stored])) $$ Ha
  ihave Ho := (show (oLoc d ↦[oSet (wL L)]{fullShare} o₀ d : sProp (MM F)) ⊢ (oMine L).view.loc (V d (cV L) (jV L)) ↦[(oMine L).view.set]{fullShare} o₀ d from
    Entails.of_eq (pts_oMine (F := F) d L _).symm) $$ [Ho']
  · iapply (Entails.of_eq (pts_oMine (F := F) d L _)); iexact Ho'
  sl_exec
  sl_step
  ihave Hw := (Entails.of_eq (pts_written x d L (o₀ d) (tile_body.sl.dma0_2 acc) (by
    unfold tile_body.sl.dma0_2
    exact hacc))) $$ Ho
  ihave Hh := (Entails.of_eq (pts_shHalf (F := F) d L _)) $$ Hread'
  ihave Htwo := (halves_out L fun k => halfPts d (cV L) k (shF x d (cV L))) $$ [Hh Hother]
  · isplitl [Hh] <;> iassumption
  icases Htwo with ⟨Hlo, Hhi⟩
  isplitl [Hx' Hw Hlo Hhi Hbar]
  · isplitr [Hbar]
    swap; · iexact Hbar
    isplitl [Hx']; · iapply (Entails.of_eq (pts_xMine (F := F) d L _ _)); iexact Hx'
    isplitl [Hw]; · iexact Hw
    isplitl [Hlo]; · iexact Hlo
    iexact Hhi
  isplitl [Hb Ha1 Hbufs]
  · isplitl [Hb]; · iexists _; iexact Hb
    isplitl [Ha1]; · iexists _; iexact Ha1
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

end Tile

end Cert.CountRun

end
-- ==== Proof.CountRun.lean ====
/- The counting's whole run: the host's operations, the call on every tile with its barrier, and the arrays it leaves. -/
module

public import proofs.«01_k».proof.Proof.CountTile

@[expose] public section

set_option maxRecDepth 16384

noncomputable section

namespace Cert.CountRun

open Cert.CountIdeal Cert.CountIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

/-! ## The arrays in parts -/

section Parts

variable (x : (d : Dev nD) → Buf (Elt F) (xLoc d))

/-- A pair of a SparseCore and a subcore is a worker's number. -/
def pairs : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_) <;> simp only [wid] <;> omega
  right_inv w := Fin.ext (by simp only [wid]; omega)

theorem workers (Φ : Fin 32 → sProp (MM F)) :
    (bigSep Finset.univ fun c : Fin 2 => bigSep Finset.univ fun i : Fin 16 => Φ (wid c i)) = bigSep Finset.univ Φ := by
  rw [bigSep_univ_equiv pairs Φ, bigSep_univ_prod]; rfl

/-- SparseCore `c`'s share of the counts, by blocks. -/
theorem xPts_core (d : Dev nD) (c : Fin 2) :
    (xLoc d ↦{xq c} x d : sProp (MM F)) = bigSep Finset.univ fun i : Fin 16 => xPts x d c i := by
  unfold xPts
  rw [← pointsTo_biUnion Finset.univ (ℓ := xLoc d) blockSet block_disjoint, block_cover]; try rfl
theorem xPts_all (d : Dev nD) :
    (xLoc d ↦{fullShare} x d : sProp (MM F)) = bigSep Finset.univ fun c : Fin 2 => xLoc d ↦{xq c} x d :=
  ShareLeaves.pointsTo_leaves Finset.univ (x d) 1 fullShare
theorem oPts_all (d : Dev nD) (f : Buf (Elt F) (oLoc d)) :
    (oLoc d ↦{fullShare} f : sProp (MM F)) = bigSep Finset.univ fun w : Fin 32 => oPts d w f := by
  unfold oPts
  rw [← pointsTo_biUnion Finset.univ (ℓ := oLoc d) oSet orow_disjoint, orow_cover]; try rfl
theorem sh_blocks (d : Dev nD) (c : Fin τ.nSC) (f : Buf (Elt F) (shLoc d c)) :
    (shLoc d c ↦{fullShare} f : sProp (MM F)) = bigSep Finset.univ fun i : Fin 16 => blockPts d c i f := by
  unfold blockPts
  rw [← pointsTo_biUnion Finset.univ (ℓ := shLoc d c) blockSet block_disjoint, block_cover]; try rfl
theorem sh_halves (d : Dev nD) (c : Fin τ.nSC) (f : Buf (Elt F) (shLoc d c)) :
    (shLoc d c ↦{fullShare} f : sProp (MM F))
      = iprop((bigSep Finset.univ fun j : Fin 16 => halfPts d c (lo j) f) ∗ bigSep Finset.univ fun j : Fin 16 => halfPts d c (hi j) f) := by
  rw [← by_halves fun k => halfPts d c k f]
  unfold halfPts
  rw [← pointsTo_biUnion Finset.univ (ℓ := shLoc d c) halfSet half_disjoint, half_cover]; try rfl

/-- The shared counts are among the sequencer's own buffers. -/
theorem ownBufs_S (d : Dev nD) (c : Fin τ.nSC) :
    (ownBufs (S d c) : sProp (MM F))
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

end Parts

/-! ## What the call's messages carry -/

section Pay

variable (x : (d : Dev nD) → Buf (Elt F) (xLoc d)) (o₀ : (d : Dev nD) → Buf (Elt F) (oLoc d))

abbrev core (c : Fin ((K (F := F)).nCore 0)) : Fin 2 := Fin.cast nCore_zero c
abbrev sub (i : Fin ((K (F := F)).nSub 0)) : Fin 16 := Fin.cast nSub_zero i
abbrev coreV (c : Fin ((K (F := F)).nCore 0)) : Fin τ.nSC := (K (F := F)).core 0 c
abbrev subV (i : Fin ((K (F := F)).nSub 0)) : Fin τ.nSub := (K (F := F)).sub 0 i

/-- SparseCore `c`'s part of the arrays, and its barrier semaphores at zero. -/
abbrev corePart (d : Dev nD) (f : Buf (Elt F) (oLoc d)) (c : Fin ((K (F := F)).nCore 0)) : sProp (MM F) :=
  iprop((xLoc d ↦{xq (core c)} x d) ∗ bigSep Finset.univ fun i : Fin 16 => oPts d (wid (core c) i) f)
abbrev bars (d : Dev nD) (c : Fin ((K (F := F)).nCore 0)) : sProp (MM F) :=
  bigSep Finset.univ fun i : Fin ((K (F := F)).nSub 0) => semVal (bcell d (coreV c) (subV i)) 0
/-- What a tile is given, and what it gives back. -/
abbrev given (d : Dev nD) (c : Fin ((K (F := F)).nCore 0)) (i : Fin 16) : sProp (MM F) :=
  iprop(xPts x d (core c) i ∗ oPts d (wid (core c) i) (o₀ d) ∗ ∃ f, blockPts d (coreV c) i f)

variable [FloatOps F]

abbrev back (d : Dev nD) (c : Fin ((K (F := F)).nCore 0)) (i : Fin 16) : sProp (MM F) :=
  iprop(xPts x d (core c) i ∗ oPts d (wid (core c) i) (outF x d)
    ∗ halfPts d (coreV c) (lo i) (shF x d (coreV c)) ∗ halfPts d (coreV c) (hi i) (shF x d (coreV c)))

set_option backward.proofsInPublic true in
def P : (K (F := F)).Pay (nD := nD) (Val := Elt F) (Name := ℕ) (U := UU) where
  st := fun q d c => match q with | 0 => corePart x d (o₀ d) c
  dn := fun q d c => match q with | 0 => iprop(corePart x d (outF x d) c ∗ bars d c)
  go := fun q d c i => match q with | 0 => given x o₀ d c (sub i)
  td := fun q d c i => match q with | 0 => iprop(back x d c (sub i) ∗ semVal (bcell d (coreV c) (subV i)) 0)
  x := fun _ thr => match thr with
    | (d, .scVector c i) => bkit x d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from bar_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) x o₀).IsStorable where
  st q d c := match q with
    | 0 => (inferInstance : BI.Storable (upEmb : UEmb _ (MM F)) (corePart x d (o₀ d) c))
  dn q d c := match q with
    | 0 => (inferInstance : BI.Storable (upEmb : UEmb _ (MM F)) iprop(corePart x d (outF x d) c ∗ bars d c))
  go q d c i := match q with
    | 0 => (inferInstance : BI.Storable (upEmb : UEmb _ (MM F)) (given x o₀ d c (sub i)))
  td q d c i := match q with
    | 0 => (inferInstance : BI.Storable (upEmb : UEmb _ (MM F)) iprop(back x d c (sub i) ∗ semVal (bcell d (coreV c) (subV i)) 0))

theorem vecSplit : (K (F := F)).VecSplit (P x o₀) 0 := by
  intro d c
  show iprop(corePart x d (o₀ d) c ∗ ownBufs (S d (coreV c))) ⊢ |={Set.univ}=> iprop(
      (bigSep Finset.univ fun i : Fin ((K (F := F)).nSub 0) => given x o₀ d c (sub i))
      ∗ ((bigSep Finset.univ fun i : Fin ((K (F := F)).nSub 0) => iprop(back x d c (sub i) ∗ semVal (bcell d (coreV c) (subV i)) 0))
          -∗ iprop(iprop(corePart x d (outF x d) c ∗ bars d c) ∗ ownBufs (S d (coreV c)))))
  rw [bigSep_sep' _ (fun i : Fin ((K (F := F)).nSub 0) => back x d c (sub i)),
    show (bigSep Finset.univ fun i : Fin ((K (F := F)).nSub 0) => given x o₀ d c (sub i)) = bigSep Finset.univ fun i : Fin 16 => given x o₀ d c i from rfl,
    show (bigSep Finset.univ fun i : Fin ((K (F := F)).nSub 0) => back x d c (sub i)) = bigSep Finset.univ fun i : Fin 16 => back x d c i from rfl,
    bigSep_sep', bigSep_sep', bigSep_sep', bigSep_sep', bigSep_sep', ownBufs_S]
  unfold corePart
  rw [xPts_core]
  iintro ⟨⟨Hx, Ho⟩, ⟨%fsh, Hsh⟩, Hrest⟩; imodintro
  isplitl [Hx Ho Hsh]
  · isplitl [Hx]; · iexact Hx
    isplitl [Ho]; · iexact Ho
    ihave Hsh' := ((Entails.of_eq (sh_blocks d (coreV c) fsh)).trans (SparseCore.ent (bigSep_mono (Φ := fun i => blockPts (F := F) d (coreV c) i fsh)
      (Ψ := fun i => iprop(∃ f, blockPts (F := F) d (coreV c) i f))
      fun i _ => BI.BIClass.exists_intro (Φ := fun f => blockPts (F := F) d (coreV c) i f) fsh))) $$ Hsh
    iexact Hsh'
  iintro ⟨⟨Hx, Ho, Hlo, Hhi⟩, Hbars⟩
  isplitl [Hx Ho Hbars]
  · isplitr [Hbars]; swap; · iexact Hbars
    isplitl [Hx]; · iexact Hx
    iexact Ho
  isplitl [Hlo Hhi]
  · iexists (shF x d (coreV c))
    iapply (Entails.of_eq (sh_halves d (coreV c) (shF x d (coreV c))).symm)
    isplitl [Hlo] <;> iassumption
  iexact Hrest

/-! ## The ghost state at launch, and what the launch hands over -/

abbrev DCI : Type := Dev nD × Fin τ.nSC × Fin τ.nSub
abbrev bcell₃ (p : DCI) : GSem nD τ sig := bcell p.1 p.2.1 p.2.2
/-- Every tile's barrier cell. -/
def bCells : Finset (GSem nD τ sig) := (Finset.univ : Finset DCI).image bcell₃
/-- Tile `i`'s token in tile `j`'s cell, for every pair of tiles of a SparseCore. -/
def bToks : Finset (GSem nD τ sig × ℕ × ℕ) :=
  ((Finset.univ : Finset DCI) ×ˢ (Finset.univ : Finset (Fin (grid0.bound 1)))).image fun p : DCI × Fin (grid0.bound 1) => (bcell p.1.1 p.1.2.1 (p.2.castLE hsub0), 0, p.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem cells_eq (Φ : GSem nD τ sig → sProp (MM F)) : bigSep bCells Φ = bigSep Finset.univ fun p : DCI => Φ (bcell₃ p) := by
  unfold bCells; exact SparseCore.bigSep_image_of_injOn (fun a _ b _ e => bcell₃_injective e) Φ

omit [FloatOps F] in
theorem ownU_two (a : UH) (b : UB) : (ownU ((a, (b, 1)) : UU) : sProp (MM F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The barrier cells at zero, out of the free semaphores. -/
theorem cells_zero : ((K (F := F)).freeOn (· ∈ bCells) : sProp (MM F)) ⊢ bigSep bCells fun g => semVal g 0 := by
  rw [cells_eq]
  unfold SparseCore.Cfg.freeOn
  refine sep_elim_right.trans (bigSep_mono fun p _ => ?_)
  exact bigSep_elim (Φ := fun sm : SemLoc sig => (semVal (V p.1 p.2.1 p.2.2, sm) 0 : sProp (MM F))) (Finset.mem_filter.mpr
      ⟨Finset.mem_erase.mpr ⟨fun h => bar_ne_go (SemLoc.reg.inj h), Finset.mem_filter.mpr ⟨Finset.mem_univ _, by decide⟩⟩,
        Finset.mem_image_of_mem bcell₃ (Finset.mem_univ p)⟩)

/-- The cells' invariants, all at once. -/
theorem cells_alloc : iprop((bigSep bCells fun g => (semVal g 0 : sProp (MM F))) ∗ bigSep bCells fun g => roundState EB (bRd x) g 0)
    ⊢ |={Set.univ}=> iprop(∃ κ : GSem nD τ sig → ℕ, bigSep bCells fun g => cellInv EB (bRd x) (κ g) g) := by
  refine (Rounds.bodies_intro EB (bRd x) bCells).trans ((inv_alloc_family bCells (Rounds.body EB (bRd x)) ∅ (E := Set.univ)).trans ?_)
  iintro H
  imod H with ⟨%κ, -, Hinv⟩
  imodintro; iexists κ; iexact Hinv

omit [FloatOps F] in
theorem tally_units (g : GSem nD τ sig) (ι : HIx 1) (n : ℕ) : ∑ _ : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- The arrivals a tile may take, each tile those at its own cell. -/
theorem creds : ((P (F := F) x o₀).oxCred : sProp (MM F)) ⊢ bigSep Finset.univ fun p : DCI => cred (tallyAt (bcell₃ p) (some 0) (grid0.bound 1)) := by
  unfold SparseCore.Cfg.Pay.oxCred
  rw [SparseCore.Cfg.bigSep_threads (fun thr : Thread nD τ => (cred ((P (F := F) x o₀).oxFrom 0 thr) : sProp (MM F)))]
  refine sep_elim_right.trans (sep_elim_right.trans ?_)
  rw [bigSep_univ_prod, bigSep_univ_prod (fun p : DCI => (cred (tallyAt (bcell₃ p) (some 0) (grid0.bound 1)) : sProp (MM F)))]
  refine bigSep_mono fun d _ => ?_
  rw [bigSep_univ_prod, bigSep_univ_prod (fun ci : Fin τ.nSC × Fin τ.nSub => (cred (tallyAt (bcell₃ (d, ci)) (some 0) (grid0.bound 1)) : sProp (MM F)))]
  refine bigSep_mono fun c _ => ?_
  dsimp only
  have hox : ∀ i, (P (F := F) x o₀).oxFrom 0 (V d c i) = oxV d c := fun i => by
    rw [show (0 : ℕ) = (0 : Fin 1).val from rfl, (P x o₀).oxFrom_step, (P x o₀).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, tally_units]; rfl

omit [FloatOps F] in
/-- A persistent resource goes to each conjunct beside it. -/
theorem deal_frame {I : Type} [DecidableEq I] {R : sProp (MM F)} [BI.Persistent R] {s : Finset I} {Φ Ψ : I → sProp (MM F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun p => (dutyTok EB p.1 p.2.1 p.2.2 : sProp (MM F)))
    = bigSep Finset.univ fun p : DCI => bigSep Finset.univ fun j : Fin (grid0.bound 1) => dutyTok EB (bcell p.1 p.2.1 (j.castLE hsub0)) 0 p.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

omit [FloatOps F] in
theorem emp_all {I : Type} (s : Finset I) : (bigSep s fun _ => iprop(emp)) = (iprop(emp) : sProp (MM F)) := bigSep_emp_const s

theorem x_T (d : Dev nD) : (bigSep Finset.univ fun q : Fin 1 => (P (F := F) x o₀).x q (SparseCore.T d)) = iprop(emp) :=
  bigSep_univ_of_subsingleton (0 : Fin 1)
theorem x_S (d : Dev nD) (c : Fin τ.nSC) : (bigSep Finset.univ fun q : Fin 1 => (P (F := F) x o₀).x q (S d c)) = iprop(emp) :=
  bigSep_univ_of_subsingleton (0 : Fin 1)
theorem x_V (d : Dev nD) (c : Fin τ.nSC) (i : Fin τ.nSub) :
    (bigSep Finset.univ fun q : Fin 1 => (P (F := F) x o₀).x q (V d c i)) = bkit x d c i :=
  bigSep_univ_of_subsingleton (0 : Fin 1)

/-- What every tile is handed alike: every cell's invariant, and that each is at its first round. -/
abbrev common : sProp (MM F) :=
  iprop((∃ κ : GSem nD τ sig → ℕ, bigSep Finset.univ fun p : DCI => cellInv EB (bRd x) (κ (bcell₃ p)) (bcell₃ p))
    ∗ bigSep Finset.univ fun p : DCI => reached EB (bcell₃ p) 0)
/-- What each tile is handed of its own. -/
abbrev own₃ (p : DCI) : sProp (MM F) :=
  iprop(atPos EB (bcell₃ p) 0 ∅ 0
    ∗ (bigSep Finset.univ fun j : Fin (grid0.bound 1) => dutyTok EB (bcell p.1 p.2.1 (j.castLE hsub0)) 0 p.2.2.val)
    ∗ cred (tallyAt (bcell₃ p) (some 0) (grid0.bound 1)))

/-- One tile's kit. -/
theorem kit_of (p : DCI) : iprop(common (F := F) x ∗ own₃ p) ⊢ (bkit (F := F) x p.1 p.2.1 p.2.2 : sProp (MM F)) := by
  obtain ⟨d, c, i⟩ := p
  iintro ⟨⟨#Hinv, #Hr⟩, Hat, Htok, Hcred⟩
  unfold bkit
  isplitr
  · icases Hinv with ⟨%κ, Hinv⟩
    iexists κ
    iapply (SparseCore.ent (deal_frame (s := (Finset.univ : Finset (Fin (grid0.bound 1)))) (Φ := fun _ => iprop(emp))
      (R := bigSep Finset.univ fun p : DCI => cellInv EB (bRd x) (κ (bcell₃ p)) (bcell₃ p)) fun j _ =>
        sep_elim_left.trans (bigSep_elim (i := ((d, c, Fin.castLE hsub0 j) : DCI)) (Φ := fun p : DCI => (cellInv EB (bRd x) (κ (bcell₃ p)) (bcell₃ p) : sProp (MM F)))
          (Finset.mem_univ _))))
    isplitl; · iexact Hinv
    rw [emp_all]; iempintro
  isplitl [Htok]; · iexact Htok
  isplitr
  · iapply (SparseCore.ent (deal_frame (s := (Finset.univ : Finset (Fin (grid0.bound 1)))) (Φ := fun _ => iprop(emp))
      (R := bigSep Finset.univ fun p : DCI => reached EB (bcell₃ p) 0) fun j _ =>
        sep_elim_left.trans (bigSep_elim (i := ((d, c, Fin.castLE hsub0 j) : DCI)) (Φ := fun p : DCI => (reached EB (bcell₃ p) 0 : sProp (MM F))) (Finset.mem_univ _))))
    isplitl; · iexact Hr
    rw [emp_all]; iempintro
  isplitl [Hat]; · iexact Hat
  iexact Hcred

/-- Each tile its kit. -/
theorem kits :
    iprop(common (F := F) x ∗ (bigSep Finset.univ fun p : DCI => atPos EB (bcell₃ p) 0 ∅ 0)
        ∗ (bigSep Finset.univ fun p : DCI => bigSep Finset.univ fun j : Fin (grid0.bound 1) => dutyTok EB (bcell p.1 p.2.1 (j.castLE hsub0)) 0 p.2.2.val)
        ∗ (bigSep Finset.univ fun p : DCI => cred (tallyAt (bcell₃ p) (some 0) (grid0.bound 1))))
      ⊢ (bigSep Finset.univ fun thr : Thread nD τ => bigSep Finset.univ fun q : Fin 1 => (P (F := F) x o₀).x q thr : sProp (MM F)) := by
  rw [SparseCore.Cfg.bigSep_threads (fun thr : Thread nD τ => bigSep Finset.univ fun q : Fin 1 => (P x o₀).x q thr)]
  simp only [x_T, x_S, x_V, emp_all]
  iintro ⟨#Hsh, Hat, Htok, Hcred⟩
  isplitr; · iempintro
  isplitr; · iempintro
  iapply (deal_frame (R := common (F := F) x) (Φ := own₃ (F := F)) fun p _ => kit_of (F := F) x p)
  isplitr; · iexact Hsh
  unfold own₃
  rw [bigSep_sep', bigSep_sep']
  isplitl [Hat]; · iexact Hat
  isplitl [Htok]; · iexact Htok
  iexact Hcred

theorem hu₀ : iprop(ownU (u₀ (F := F)) ∗ (P (F := F) x o₀).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P x o₀).x q thr) : sProp (MM F)) := by
  unfold u₀
  iintro ⟨Hu, Hcred, Hfree⟩
  ihave H := (ownU_two _ _) $$ Hu
  icases H with ⟨HH, HB⟩
  imod (Rounds.fund EB (bRd x) bCells bToks) $$ HB with ⟨Hst, #Hr, Hat, Htok⟩
  ihave Hsems := (cells_zero (F := F)) $$ Hfree
  imod (cells_alloc (F := F) x) $$ [Hsems Hst] with ⟨%κ, #Hinv⟩
  · isplitl [Hsems] <;> iassumption
  ihave Hcred' := (creds x o₀) $$ Hcred
  ihave Hinv' := (Entails.of_eq (cells_eq (F := F) fun g => cellInv EB (bRd x) (κ g) g)) $$ Hinv
  ihave Hr' := (Entails.of_eq (cells_eq (F := F) fun g => reached EB g 0)) $$ Hr
  ihave Hat' := (Entails.of_eq (cells_eq (F := F) fun g => atPos EB g 0 ∅ 0)) $$ Hat
  ihave Htok' := (Entails.of_eq (toks_eq (F := F))) $$ Htok
  imodintro
  isplitl [HH]; · iexact HH
  isplitr; · rw [emp_all]; iempintro
  iapply (kits x o₀)
  isplitr
  · isplitl; · iexists κ; iexact Hinv'
    iexact Hr'
  isplitl [Hat']; · iexact Hat'
  isplitl [Htok']; · iexact Htok'
  iexact Hcred'

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_count_body (coordsV c s)
          xV (Memref.isWhole_whole _) oV (Memref.isWhole_whole _) bV (Memref.isWhole_whole _)
          aV (Memref.isWhole_whole _) shV (Memref.isWhole_whole _) cc0_scoped0 cc0_scoped1 cc0_scoped2) ⟨⟩ c s := rfl

theorem tileObl (hF : (K (F := F)).Facts) : (K (F := F)).TileObl (D (F := F)) 𝒱 (P x o₀) v₀ 0 := by
  intro d c i O W hO hOlev _
  have hci : ((K (F := F)).core 0 c).val < grid0.bound 0 ∧ ((K (F := F)).sub 0 i).val < grid0.bound 1 := ⟨c.isLt, i.isLt⟩
  rw [show (P x o₀).ox 0 (V d ((K (F := F)).core 0 c) ((K (F := F)).sub 0 i)) = oxV d ((K (F := F)).core 0 c) from rfl,
    show (P x o₀).x 0 (V d ((K (F := F)).core 0 c) ((K (F := F)).sub 0 i)) = bkit x d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body x o₀ d (coordsV ⟨_, hci.1⟩ ⟨_, hci.2⟩) hF O W hO hOlev

end Pay

/-! ## The host's operations around the call -/

section Main

variable [FloatOps F]
variable (m : (ℓ : Loc nD τ sig) → Buf (Elt F) ℓ) (ρ : Dev nD → PrngReg)

/-- The host's operations before the call: the counts as floats, each laid along a row. -/
abbrev ops1 : List (HloOp τ sig (Elt F)) :=
  [ unary main_arg0 main_v0 (sitofp .f32 : (⟨S8192, .i32⟩ : BufTy).Contents (Elt F) → (⟨S8192, .f32⟩ : BufTy).Contents (Elt F)),
    unary main_v0 main_v1 (broadcastInDim S8192x1 ![0] bcast_S8192_S8192x1_0 : (⟨S8192, .f32⟩ : BufTy).Contents (Elt F) → (⟨S8192x1, .f32⟩ : BufTy).Contents (Elt F)),
    unary main_v1 main_v2 (broadcastInDim S8192x16 ![0, 1] bcast_S8192x1_S8192x16_0_1 : (⟨S8192x1, .f32⟩ : BufTy).Contents (Elt F) → (⟨S8192x16, .f32⟩ : BufTy).Contents (Elt F)) ]

/-- The host's operations after the call: the counts summed and scaled. -/
abbrev ops2 : List (HloOp τ sig (Elt F)) :=
  [ nullary main_cst (constant S_ .f32 0x00000000#32),
    binary main_v3 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_0 (constant S_ .f32 0x37000000#32),
    binary main_v4 main_cst_0 main_v5 (mulf : (⟨S_, .f32⟩ : BufTy).Contents (Elt F) → (⟨S_, .f32⟩ : BufTy).Contents (Elt F) → (⟨S_, .f32⟩ : BufTy).Contents (Elt F)) ]

theorem main_eq (d : Dev nD) : main (F := F) d = (seq ops1 >>= fun _ => (sc (F := F)).run d 0 >>= fun _ => seq ops2) := rfl

theorem ops1_sub : ∀ op ∈ (ops1 : List (HloOp τ sig (Elt F))), op.bufs ⊆ Pipeline.ucRefs τ sig :=
  List.forall_iff_forall_mem.mp (show (ops1 : List (HloOp τ sig (Elt F))).Forall fun op => op.bufs ⊆ Pipeline.ucRefs τ sig from
    ⟨Pipeline.sub_ucRefs _ (unary_bufs_sub ..), Pipeline.sub_ucRefs _ (unary_bufs_sub ..), Pipeline.sub_ucRefs _ (unary_bufs_sub ..)⟩)
theorem ops2_sub : ∀ op ∈ (ops2 : List (HloOp τ sig (Elt F))), op.bufs ⊆ Pipeline.ucRefs τ sig :=
  List.forall_iff_forall_mem.mp (show (ops2 : List (HloOp τ sig (Elt F))).Forall fun op => op.bufs ⊆ Pipeline.ucRefs τ sig from
    ⟨Pipeline.sub_ucRefs _ (nullary_bufs_sub ..), Pipeline.sub_ucRefs _ (binary_bufs_sub ..), Pipeline.sub_ucRefs _ (nullary_bufs_sub ..),
      Pipeline.sub_ucRefs _ (binary_bufs_sub ..)⟩)
theorem ops1_fresh : ∀ op ∈ (ops1 : List (HloOp τ sig (Elt F))), op.fresh = ∅ :=
  List.forall_iff_forall_mem.mp (forall_fresh_of_map rfl)
theorem ops2_fresh : ∀ op ∈ (ops2 : List (HloOp τ sig (Elt F))), op.fresh = ∅ :=
  List.forall_iff_forall_mem.mp (forall_fresh_of_map rfl)

abbrev a0' : DevRef τ sig := Proc.devRef .tc (main_arg0 : Ref sig .tc)
abbrev x' : DevRef τ sig := Proc.devRef .tc (main_v2 : Ref sig .tc)
abbrev o' : DevRef τ sig := Proc.devRef .tc (main_v3 : Ref sig .tc)
abbrev r' : DevRef τ sig := Proc.devRef .tc (main_v5 : Ref sig .tc)
abbrev a0Loc (d : Dev nD) : Loc nD τ sig := (SparseCore.T d).loc main_arg0
abbrev rLoc (d : Dev nD) : Loc nD τ sig := (SparseCore.T d).loc main_v5

/-- The arrays at launch, and as the call finds them. -/
def V0 (d : Dev nD) : Valuation τ sig (Elt F) := fun b => m (d, b)
def V1 (d : Dev nD) : Valuation τ sig (Elt F) := after ops1 (V0 m d)
/-- The counts and the result's first contents as the call finds them. -/
def xs (d : Dev nD) : Buf (Elt F) (xLoc d) := V1 m d x'
def o₀ (d : Dev nD) : Buf (Elt F) (oLoc d) := V1 m d o'
/-- The arrays after the call, and at the end. -/
def V2 (d : Dev nD) : Valuation τ sig (Elt F) := Function.update (V1 m d) o' (outF (xs m) d)
def V3 (d : Dev nD) : Valuation τ sig (Elt F) := after ops2 (V2 m d)

theorem unscoped_held (d : Dev nD) :
    (unscopedBufs d (fun b => m ((SparseCore.T d).loc b)) : sProp (MM F)) = held (SparseCore.T d) (Pipeline.ucRefs τ sig) (V0 m d) :=
  Pipeline.unscopedBufs_held d (V0 m d)

/-- The call's two arrays. -/
abbrev R2 : Finset (DevRef τ sig) := {x', o'}
/-- The argument and the result. -/
abbrev RE : Finset (DevRef τ sig) := {a0', r'}
theorem R2_sub : R2 ⊆ Pipeline.ucRefs τ sig := by decide
theorem RE_sub : RE ⊆ Pipeline.ucRefs τ sig := by decide

omit [FloatOps F] in
theorem held_R2 (d : Dev nD) (W : Valuation τ sig (Elt F)) :
    (held (SparseCore.T d) R2 W : sProp (MM F)) = iprop((xLoc d ↦{fullShare} W x') ∗ oLoc d ↦{fullShare} W o') := by
  unfold held R2
  rw [SparseCore.bigSep_insert' (by decide), bigSep_singleton]
omit [FloatOps F] in
theorem held_RE (d : Dev nD) (W : Valuation τ sig (Elt F)) :
    (held (SparseCore.T d) RE W : sProp (MM F)) = iprop((a0Loc d ↦{fullShare} W a0') ∗ rLoc d ↦{fullShare} W r') := by
  unfold held RE
  rw [SparseCore.bigSep_insert' (by decide), bigSep_singleton]

theorem before_call (d : Dev nD) :
    (held (SparseCore.T d) (Pipeline.ucRefs τ sig) (after ops1 (V0 m d)) : sProp (MM F))
      = iprop(((xLoc d ↦{fullShare} xs m d) ∗ oLoc d ↦{fullShare} o₀ m d) ∗ held (SparseCore.T d) (Pipeline.ucRefs τ sig \ R2) (V1 m d)) := by
  show held (SparseCore.T d) (Pipeline.ucRefs τ sig) (V1 m d) = _
  rw [held_sub_split (SparseCore.T d) R2_sub, held_R2]; rfl

theorem V2_x (d : Dev nD) : V2 m d x' = xs m d := Function.update_of_ne (show x' ≠ o' by decide) _ _
theorem V2_o (d : Dev nD) : V2 m d o' = outF (xs m) d := Function.update_self _ _ _

theorem after_call (d : Dev nD) :
    (held (SparseCore.T d) (Pipeline.ucRefs τ sig) (V2 m d) : sProp (MM F))
      = iprop(((xLoc d ↦{fullShare} xs m d) ∗ oLoc d ↦{fullShare} outF (xs m) d) ∗ held (SparseCore.T d) (Pipeline.ucRefs τ sig \ R2) (V1 m d)) := by
  rw [held_sub_split (SparseCore.T d) R2_sub, held_R2, V2_x, V2_o,
    held_congr (SparseCore.T d) (S := Pipeline.ucRefs τ sig \ R2) (V := V2 m d) (V' := V1 m d) fun b hb => Function.update_of_ne (fun e => (Finset.mem_sdiff.mp hb).2 (by rw [e]; decide)) _ _]

/-! ## What the end holds -/

theorem kept1 {b : Ref sig .tc} (W : Valuation τ sig (Elt F)) (hb : b ∉ [main_v0, main_v1, main_v2]) :
    after (ops1 (F := F)) W (Proc.devRef .tc b) = W (Proc.devRef .tc b) :=
  after_of_writes_sub (W := [main_v0, main_v1, main_v2]) ops1 W (forall_writes_sub_of_map rfl) hb
theorem kept2 {b : Ref sig .tc} (W : Valuation τ sig (Elt F)) (hb : b ∉ [main_cst, main_v4, main_cst_0, main_v5]) :
    after (ops2 (F := F)) W (Proc.devRef .tc b) = W (Proc.devRef .tc b) :=
  after_of_writes_sub (W := [main_cst, main_v4, main_cst_0, main_v5]) ops2 W (forall_writes_sub_of_map rfl) hb
theorem V3_a0 (d : Dev nD) : V3 m d a0' = m (a0Loc d) := by
  unfold V3 V2 V1
  rw [kept2 _ (by decide), Function.update_of_ne (show a0' ≠ o' by decide), kept1 _ (by decide)]; rfl

theorem xs_eq (d : Dev nD) : xs m d = broadcastInDim S8192x16 ![0, 1] bcast_S8192x1_S8192x16_0_1
    (broadcastInDim S8192x1 ![0] bcast_S8192_S8192x1_0 (sitofp .f32 (m (a0Loc d)) : FVec F S8192 .f32)) := by
  unfold xs V1
  simp only [ops1]
  after_results <;> rfl

/-- The result: the tiles' counts summed, over sixteen times the number of counters. -/
def rF (d : Dev nD) : Buf (Elt F) (rLoc d) :=
  mulf (Host.reduceAdd (outF (xs m) d) (constant S_ .f32 0x00000000#32) reducesTo_S32x16_S_d0_1 h_S_ : FVec F S_ .f32) (constant S_ .f32 0x37000000#32)

theorem V3_r (d : Dev nD) : V3 m d r' = rF m d := by
  unfold V3 rF
  rw [← V2_o]
  simp only [ops2]
  after_results <;> rfl

/-- What @main leaves: the argument as it was, the result, and every barrier semaphore at zero. -/
abbrev FIN (d : Dev nD) : sProp (MM F) :=
  iprop(((a0Loc d ↦{fullShare} m (a0Loc d)) ∗ rLoc d ↦{fullShare} rF m d) ∗ bigSep Finset.univ fun c : Fin ((K (F := F)).nCore 0) => bars d c)

theorem at_end (d : Dev nD) :
    (held (SparseCore.T d) (Pipeline.ucRefs τ sig) (after ops2 (V2 m d)) : sProp (MM F))
      = iprop(((a0Loc d ↦{fullShare} m (a0Loc d)) ∗ rLoc d ↦{fullShare} rF m d) ∗ held (SparseCore.T d) (Pipeline.ucRefs τ sig \ RE) (V3 m d)) := by
  show held (SparseCore.T d) (Pipeline.ucRefs τ sig) (V3 m d) = _
  rw [held_sub_split (SparseCore.T d) RE_sub, held_RE, V3_a0, V3_r]

omit [FloatOps F] in
theorem cores_all (x : (d : Dev nD) → Buf (Elt F) (xLoc d)) (d : Dev nD) (f : Buf (Elt F) (oLoc d)) :
    (bigSep Finset.univ fun c : Fin ((K (F := F)).nCore 0) => corePart x d f c)
      = (iprop((xLoc d ↦{fullShare} x d) ∗ oLoc d ↦{fullShare} f) : sProp (MM F)) := by
  rw [xPts_all, oPts_all, ← workers fun w => oPts d w f, bigSep_sep']
  rfl

theorem st0_eq (d : Dev nD) : (bigSep Finset.univ fun c : Fin ((K (F := F)).nCore 0) => (P (xs m) (o₀ m)).st 0 d c)
    = (iprop((xLoc d ↦{fullShare} xs m d) ∗ oLoc d ↦{fullShare} o₀ m d) : sProp (MM F)) :=
  cores_all (xs m) d (o₀ m d)
theorem dn0_eq (d : Dev nD) : (bigSep Finset.univ fun c : Fin ((K (F := F)).nCore 0) => (P (xs m) (o₀ m)).dn 0 d c)
    = (iprop(((xLoc d ↦{fullShare} xs m d) ∗ oLoc d ↦{fullShare} outF (xs m) d) ∗ bigSep Finset.univ fun c : Fin ((K (F := F)).nCore 0) => bars d c) : sProp (MM F)) := by
  rw [← cores_all (xs m) d (outF (xs m) d), ← bigSep_sep']
  rfl

/-- @main on the TensorCore: the operations before the call, the call, the operations after it. -/
theorem hmain (κ : GSem nD τ sig → ℕ) (d : Dev nD) :
    iprop((K (F := F)).ctx EH (P (xs m) (o₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (Pipeline.ucRefs τ sig) _ ops1 ops1_sub ops1_fresh (V0 m d)) $$ [Hb Hheld]
  · isplitl [Hb] <;> iassumption
  iintro ⟨Hb, Hheld⟩
  ihave Hh := (Entails.of_eq (before_call (F := F) m d)) $$ Hheld
  icases Hh with ⟨Hcall, Hrest⟩
  rw [wp_bind]
  iapply ((K (F := F)).wp_run (D (F := F)) 𝒱 (EH := EH) (P := P (xs m) (o₀ m)) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  icases Hdn' with ⟨Harr, Hbars⟩
  rw [← bind_pure (seq ops2)]
  iapply (wp_seq 𝒱 none Set.univ d (Pipeline.ucRefs τ sig) _ ops2 ops2_sub ops2_fresh (V2 m d)) $$ [Hb Harr Hrest]
  · isplitl [Hb]; · iexact Hb
    rw [after_call]
    isplitl [Harr] <;> iassumption
  iintro ⟨Hb, Hheld⟩
  ihave Hh := (Entails.of_eq (at_end (F := F) m d)) $$ Hheld
  icases Hh with ⟨Hfin, -⟩
  rw [wp_pure]; imodintro
  isplitl [Hst]; · iexact Hst
  isplitl [Hfin Hbars]
  · isplitl [Hfin] <;> iassumption
  isplitl [Hb] <;> iassumption

/-- What a claim reads of the final state: the argument as it was, the result, and the barrier semaphores at zero. -/
def fq (d : Dev nD) (s' : Phys nD τ sig (Elt F)) : Prop :=
  (s'.mem.mem (a0Loc d) = m (a0Loc d) ∧ s'.mem.mem (rLoc d) = rF m d)
    ∧ ∀ (c : Fin ((K (F := F)).nCore 0)) (i : Fin ((K (F := F)).nSub 0)), s'.mem.sem (bcell d (coreV c) (subV i)) = 0

theorem hfin_arr (d : Dev nD) (s' : Phys nD τ sig (Elt F)) :
    iprop(((a0Loc d ↦{fullShare} m (a0Loc d)) ∗ rLoc d ↦{fullShare} rF m d) ∗ SI s')
      ⊢ (⌜s'.mem.mem (a0Loc d) = m (a0Loc d) ∧ s'.mem.mem (rLoc d) = rF m d⌝ : sProp (MM F)) := by
  iintro ⟨⟨H0, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (SI_pointsTo_agree (st := s') (ℓ := rLoc d) (I := Finset.univ) (q := fullShare) (f := rF m d)) $$ [HSI H3]
  · isplitl [HSI] <;> iassumption
  icases H with %h3
  ipureintro
  exact ⟨funext fun i => h0 i (Finset.mem_univ i), funext fun i => h3 i (Finset.mem_univ i)⟩

theorem hfin (d : Dev nD) (s' : Phys nD τ sig (Elt F)) : iprop(FIN m d ∗ SI s') ⊢ (⌜fq m d s'⌝ : sProp (MM F)) :=
  fun y hy => ⟨((sep_mono_left sep_elim_left).trans (hfin_arr m d s')) y hy, fun c i =>
    ((sep_mono_left (sep_elim_right.trans ((SparseCore.ent (bigSep_elim (i := c) (Finset.mem_univ c))).trans
      (SparseCore.ent (bigSep_elim (i := i) (Finset.mem_univ i)))))).trans (SparseCore.Cfg.semVal_zero_read _ s')) y hy⟩

/-- The barrier cells end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- The final states of a run: each device's argument as it was and its result, and every semaphore at zero. -/
def QC : PUnit × MemSt nD τ sig (Elt F) → Prop := fun r =>
  (∀ c : Dev nD, r.2.mem (a0Loc c) = m (a0Loc c) ∧ r.2.mem (rLoc c) = rF m c) ∧ r.2.sem = fun _ => 0

/-- Every run ends with the argument as it was, the result as stated and every semaphore at zero. -/
theorem run_main [∀ e, Nonempty (Elt F e)] :
    θ_run (Cert.CountIdeal.defs (F := F)) (Cert.CountIdeal.threads (F := F)) ⟨m, fun _ => 0, ρ⟩ (QC m) :=
  SparseCore.Cfg.θ_run_sc_quiescent (K := K (F := F)) (D := D (F := F)) (𝒱 := 𝒱) (EH := EH) (P := P (xs m) (o₀ m)) (hA := hA m) scFacts v₀
    (fun q hq => match q with | 0 => nomatch hq)
    (fun q _ => match q with | 0 => tileObl (xs m) (o₀ m) scFacts)
    (fun q _ => match q with | 0 => vecSplit (xs m) (o₀ m))
    m ρ main (fun _ => iprop(emp)) (FIN m) (u₀ (F := F)) (hu₀ (xs m) (o₀ m)) (hmain m ρ) (fq m) (hfin m) (QC m) (fun _ h hz => ⟨fun c => (h c).1, hz⟩)

end Main

end Cert.CountRun

end
-- ==== Proof.Used.lean ====
/- The claims about the counting of used codes and its reference. -/
module

public import proofs.«01_k».proof.Defs
public import proofs.«01_k».proof.Proof.CountRun
public import proofs.«01_k».proof.Proof.Agree
public import proofs.«01_k».proof.Proof.Gen.Count
public import proofs.«01_k».proof.Proof.Gen.UsedIdeal.Run

@[expose] public section

set_option maxRecDepth 16384

noncomputable section

namespace Cert.Used

open Idealize.ShloMosaic Idealize.ShloMosaic.TcCoe Idealize.SL.Sem
open Cert.CountRun

/-! ## The frames -/

/-- The counting terminates, keeps its argument and leaves every counter at zero. -/
theorem frame_count : Cert.quiescent_Count := fun m ρ _ =>
  (θ_run (Cert.CountIdeal.defs (F := Bits)) _ _).mono (fun _ h => ⟨fun c => (h.1 c).1, h.2⟩) (run_main (F := Bits) m ρ)

/-- So does its idealization. -/
theorem frame_count_ideal : Cert.quiescent_CountIdeal := fun m ρ _ =>
  (θ_run (Cert.CountIdeal.defs (F := Ideal)) _ _).mono (fun _ h => ⟨fun c => (h.1 c).1, h.2⟩) (run_main (F := Ideal) m ρ)

/-- The counting reference's frame. -/
theorem frame_used : Cert.quiescent_UsedIdeal := fun m ρ _ =>
  (θ_run Cert.UsedIdeal.defs _ _).mono (fun r h => ⟨fun c => (h c).2, sem_eq_zero_of_no_sems (by decide) r.2⟩) (Cert.UsedIdeal.Value.run (F := Ideal) m ρ)

/-- No operation was rewritten. -/
theorem preserves : Cert.preserves_Count_CountIdeal := trivial

/-! ## How many codes are used -/

/-- One for a positive count, zero otherwise. -/
def hit (b : BitVec 32) : ℕ := if 0 < b.toInt then 1 else 0

theorem hit_le (b : BitVec 32) : hit b ≤ 1 := by unfold hit; split <;> omega

/-- The reciprocal of sixteen times the number of counters, and the number of counters. -/
theorem share : Ideal.ofBits .f32 0x37000000#32 = ((131072⁻¹ : ℝ) : EReal) := by
  simp [Ideal.ofBits, Ideal.ieee]
  norm_num [← EReal.coe_mul]
theorem counters : Ideal.ofBits .f32 0x46000000#32 = ((8192 : ℝ) : EReal) := by
  simp [Ideal.ofBits, Ideal.ieee]
  norm_num [← EReal.coe_mul]

/-- One row's step adds its hit. -/
theorem step (acc : FVec Ideal Cert.CountIdeal.S16 .f32) (row : Vec Ideal Cert.CountIdeal.S1x16 .f32) (j : Fin 16) (b : BitVec 32)
    (h : row (ix2 0 j) = (((b.toInt : ℝ) : EReal))) :
    Cert.CountIdeal.Gen.k0_pay2 (F := Ideal) acc row (ix1 j) = acc (ix1 j) + ((hit b : ℝ) : EReal) := by
  pointwise [Cert.CountIdeal.Gen.k0_pay2]
  rw [h]
  unfold hit
  by_cases hb : 0 < b.toInt
  · rw [if_pos hb, if_pos (EReal.coe_pos.mpr (Int.cast_pos.mpr hb))]
    simp
  · rw [if_neg hb, if_neg fun e => hb (Int.cast_pos.mp (EReal.coe_pos.mp e))]
    simp

/-- The running count after `n` rows. -/
theorem acc_eq (g : FVec Ideal Cert.CountIdeal.S256x16 .f32) (b : ℕ → BitVec 32) (j : Fin 16)
    (hg : ∀ r : Fin 256, g (ix2 r j) = (((b r.val).toInt : ℝ) : EReal)) (n : ℕ) (hn : n ≤ 256) :
    accOf (F := Ideal) g n (ix1 j) = (((∑ r ∈ Finset.range n, hit (b r) : ℕ) : ℝ) : EReal) := by
  induction n with
  | zero =>
    show Cert.CountIdeal.Gen.k0_pay1 (F := Ideal) (ix1 j) = _
    pointwise [Cert.CountIdeal.Gen.k0_pay1]
    simp
  | succ n ih =>
    have hr : rowOf g n (ix2 0 j) = (((b n).toInt : ℝ) : EReal) := by
      refine (hg ⟨n % 256, Nat.mod_lt _ (by decide)⟩).trans ?_
      show (((b (n % 256)).toInt : ℝ) : EReal) = _
      rw [Nat.mod_eq_of_lt (show n < 256 by omega)]
    refine (step (accOf g n) (rowOf g n) j (b n) hr).trans ?_
    rw [ih (by omega), Finset.sum_range_succ, ← EReal.coe_add]
    push_cast
    rfl

/-- The used codes, as a 32-bit count. -/
theorem fold_addi {ι : Type} [DecidableEq ι] (s : Finset ι) (f : ι → BitVec 32) (n : ι → ℕ) (h : ∀ i ∈ s, f i = BitVec.ofNat 32 (n i)) :
    s.fold IntOp.addi (0#32) f = BitVec.ofNat 32 (∑ i ∈ s, n i) := by
  induction s using Finset.induction_on with
  | empty => simp
  | insert a s ha ih =>
    rw [Finset.fold_insert ha, Finset.sum_insert ha, ih fun i hi => h i (Finset.mem_insert_of_mem hi), h a (Finset.mem_insert_self a s)]
    show BitVec.ofNat 32 _ + BitVec.ofNat 32 _ = _
    rw [BitVec.ofNat_add]

/-- A comparison with zero is a hit. -/
theorem bit_eq (b : BitVec 32) : BitVec.setWidth 32 (IntOp.cmpi .sgt b 0#32) = BitVec.ofNat 32 (hit b) := by
  unfold hit
  have e : IntOp.cmpi .sgt b 0#32 = BitVec.ofBool (decide (0 < b.toInt)) := by
    simp [IntOp.cmpi, BitVec.slt_eq_decide]
  rw [e]
  by_cases hb : 0 < b.toInt
  · rw [if_pos hb, decide_eq_true hb]; decide
  · rw [if_neg hb, decide_eq_false hb]; decide

/-- A sum of at most 8192 is read back from its 32-bit word. -/
theorem small (n : ℕ) (h : n ≤ 8192) : (BitVec.ofNat 32 n).toInt = n := by
  rw [BitVec.toInt_eq_toNat_cond, BitVec.toNat_ofNat]
  have : n % 2 ^ 32 = n := Nat.mod_eq_of_lt (by omega)
  rw [this, if_pos (by omega)]

/-- There are at most 8192 hits. -/
theorem hits_le (b : Fin 8192 → BitVec 32) : ∑ k, hit (b k) ≤ 8192 := by
  refine (Finset.sum_le_card_nsmul Finset.univ (fun k => hit (b k)) 1 fun k _ => hit_le _).trans ?_
  simp

/-- THE SHARE OF USED CODES, as the reference computes it. -/
theorem reference (c : IVec Cert.UsedIdeal.S8192 32) (j : Cert.UsedIdeal.S_.Idx) :
    (Host.divf (sitofp .f32 (Host.reduce IntOp.addi (extui 32 (cmpi .sgt c (broadcastInDim Cert.UsedIdeal.S8192 ![] Cert.UsedIdeal.Gen.bcast_S_S8192 (constantI Cert.UsedIdeal.S_ 32 0#32))) Cert.UsedIdeal.Gen.natLt_1_32)
      (constantI Cert.UsedIdeal.S_ 32 0#32) Cert.UsedIdeal.Gen.reducesTo_S8192_S_d0 Cert.UsedIdeal.Gen.h_S_) : FVec Ideal Cert.UsedIdeal.S_ .f32) (constant Cert.UsedIdeal.S_ .f32 0x46000000#32)) j
      = ((((∑ k : Fin 8192, hit (c (ix1 k)) : ℕ) : ℝ) * 8192⁻¹ : ℝ) : EReal) := by
  pointwise
  rw [fold_addi Finset.univ _ (fun k => hit (c (ix1 k))) fun k _ => bit_eq _, counters, Ideal.div_coe (by norm_num)]
  show ((((BitVec.ofNat 32 _).toInt : ℝ) : EReal)) * _ = _
  rw [small _ (hits_le _), ← EReal.coe_mul, one_div, Int.cast_natCast]

/-- The tiles' counts, summed and scaled. -/
theorem kernel_sum (o : FVec Ideal Cert.CountIdeal.S32x16 .f32) (j : Cert.CountIdeal.S_.Idx) :
    (mulf (Host.reduceAdd o (constant Cert.CountIdeal.S_ .f32 0x00000000#32) Cert.CountIdeal.Gen.reducesTo_S32x16_S_d0_1 Cert.CountIdeal.Gen.h_S_ : FVec Ideal Cert.CountIdeal.S_ .f32)
      (constant Cert.CountIdeal.S_ .f32 0x37000000#32)) j = (∑ a : Fin 32, ∑ b : Fin 16, o (ix2 a b)) * ((131072⁻¹ : ℝ) : EReal) := by
  pointwise
  rw [share]

/-- The counts as the tiles hold them. -/
theorem counts_apply (c : IVec Cert.CountIdeal.S8192 32) (k : Fin 8192) (j : Fin 16) :
    (broadcastInDim Cert.CountIdeal.S8192x16 ![0, 1] Cert.CountIdeal.Gen.bcast_S8192x1_S8192x16_0_1
      (broadcastInDim Cert.CountIdeal.S8192x1 ![0] Cert.CountIdeal.Gen.bcast_S8192_S8192x1_0 (sitofp .f32 c : FVec Ideal Cert.CountIdeal.S8192 .f32)) :
        FVec Ideal Cert.CountIdeal.S8192x16 .f32) (ix2 k j) = (((c (ix1 k)).toInt : ℝ) : EReal) := by
  pointwise
  rfl

/-- Each worker has its own rows. -/
theorem halves : Function.Bijective halfOf := by decide

/-- Every counter is counted once along each of the sixteen columns. -/
theorem columns (f : Fin 8192 → ℕ) (h : ∀ a : Fin 32, ∀ r : Fin 256, 256 * (halfOf a).val + r.val < 8192) :
    (∑ a : Fin 32, ∑ _b : Fin 16, ∑ r : Fin 256, f ⟨256 * (halfOf a).val + r.val, h a r⟩) = 16 * ∑ k, f k := by
  have e : ∀ w : Fin 32, ∀ r : Fin 256, w.val * 256 + r.val < 8192 := fun w r => by omega
  rw [Fin.sum_univ_tiles 32 256 rfl f, Finset.mul_sum]
  refine Eq.trans (Finset.sum_congr rfl fun a _ => ?_) (halves.sum_comp fun w : Fin 32 => 16 * ∑ r : Fin 256, f ⟨w.val * 256 + r.val, e w r⟩)
  rw [Finset.sum_const, Finset.card_univ, Fintype.card_fin, smul_eq_mul]
  refine congrArg _ (Finset.sum_congr rfl fun r _ => congrArg f (Fin.ext ?_))
  show 256 * (halfOf a).val + r.val = (halfOf a).val * 256 + r.val
  omega

/-- THE SHARE OF USED CODES, as the tiles' counts give it. -/
theorem used_eq (m : (ℓ : Loc Cert.CountIdeal.nD Cert.CountIdeal.τ Cert.CountIdeal.sig) → Buf (Elt Ideal) ℓ) (d : Dev Cert.CountIdeal.nD) (j : Cert.CountIdeal.S_.Idx) :
    rF m d j = ((((∑ k : Fin 8192, hit ((m (a0Loc d) : IVec Cert.CountIdeal.S8192 32) (ix1 k)) : ℕ) : ℝ) * 8192⁻¹ : ℝ) : EReal) := by
  have lt : ∀ a : Fin 32, ∀ r : Fin 256, 256 * (halfOf a).val + r.val < 8192 := fun a r => by omega
  have ho : ∀ (a : Fin 32) (b : Fin 16), (outF (xs m) d : FVec Ideal Cert.CountIdeal.S32x16 .f32) (ix2 a b)
      = (((∑ r : Fin 256, hit ((m (a0Loc d) : IVec Cert.CountIdeal.S8192 32) (ix1 ⟨256 * (halfOf a).val + r.val, lt a r⟩)) : ℕ) : ℝ) : EReal) := fun a b => by
    refine (acc_eq (bufF (xs m) d (halfOf a)) (fun r => if hr : r < 256 then (m (a0Loc d) : IVec Cert.CountIdeal.S8192 32) (ix1 ⟨256 * (halfOf a).val + r, lt a ⟨r, hr⟩⟩) else 0#32) b (fun r => ?_) 256 le_rfl).trans ?_
    · rw [dif_pos r.isLt]
      refine Eq.trans ?_ (counts_apply _ _ b)
      rw [← xs_eq]
      rfl
    · rw [Finset.sum_range]
      simp only [Fin.is_lt, dif_pos]
  refine (kernel_sum _ j).trans ?_
  simp only [ho]
  have hc := congrArg (Nat.cast : ℕ → ℝ) (columns (fun k => hit ((m (a0Loc d) : IVec Cert.CountIdeal.S8192 32) (ix1 k))) lt)
  simp only [Nat.cast_sum, Nat.cast_mul, Nat.cast_ofNat] at hc ⊢
  simp only [← Cert.Agree.coe_sum, ← EReal.coe_mul]
  rw [hc]
  refine congrArg _ ?_
  ring

/-- From the counts, the counting's idealization and its reference leave the same result. -/
theorem algebraic : Cert.algebraic_CountIdeal_UsedIdeal := by
  intro m g m' g' hpre hagree
  refine ⟨fun c => rF m c,
    (θ_run (Cert.CountIdeal.defs (F := Ideal)) _ _).mono (fun r h c => ⟨(h.1 c).2, (h.1 c).1⟩) (run_main (F := Ideal) m g),
    (θ_run Cert.UsedIdeal.defs _ _).mono (fun r h c => ⟨(h c).1.trans ?_, (h c).2⟩) (Cert.UsedIdeal.Value.run (F := Ideal) m' g')⟩
  rw [hagree c]
  funext j
  exact (reference _ j).trans (used_eq m c j).symm

end Cert.Used

end
-- ==== Proof.lean ====
module

public import proofs.«01_k».proof.Defs
public import proofs.«01_k».proof.Proof.Nearest
public import proofs.«01_k».proof.Proof.Taken
public import proofs.«01_k».proof.Proof.Used
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Gather
public import proofs.«01_k».proof.Proof.Gen.GatherIdeal
public import proofs.«01_k».proof.Proof.Gen.GatherIdeal.Skeleton
public import proofs.«01_k».proof.Proof.Gen.TakeIdeal
public import proofs.«01_k».proof.Proof.Gen.TakeIdeal.Run
public import proofs.«01_k».proof.Proof.Gen.Pre_in_range
public import proofs.«01_k».proof.Proof.Gen.Count
public import proofs.«01_k».proof.Proof.Gen.CountIdeal
public import proofs.«01_k».proof.Proof.Gen.CountIdeal.Skeleton
public import proofs.«01_k».proof.Proof.Gen.UsedIdeal
public import proofs.«01_k».proof.Proof.Gen.UsedIdeal.Run

@[expose] public section

noncomputable section

namespace Cert.Proof

theorem claim : Cert.Claim := ⟨Cert.Kernel.Gen.facts, Cert.KernelIdeal.Gen.facts, Cert.ReferenceIdeal.Gen.facts, Cert.Gather.Gen.facts,
  Cert.GatherIdeal.Gen.facts, Cert.TakeIdeal.Gen.facts, Cert.Count.Gen.facts, Cert.CountIdeal.Gen.facts, Cert.UsedIdeal.Gen.facts,
  Cert.Pre_finite.Gen.facts, Cert.Pre_in_range.Gen.facts,
  Cert.Nearest.frame_kernel, Cert.Nearest.frame_ideal, Cert.Nearest.frame_ideal_finite, Cert.Nearest.frame_reference, Cert.Nearest.frame_reference_finite,
  Cert.Taken.frame_gather, Cert.Taken.frame_gather_ideal, Cert.Taken.frame_take, Cert.Taken.frame_take_in_range,
  Cert.Used.frame_count, Cert.Used.frame_count_ideal, Cert.Used.frame_used,
  Cert.Nearest.preserves, Cert.Nearest.algebraic, Cert.Taken.preserves, Cert.Taken.algebraic, Cert.Used.preserves, Cert.Used.algebraic⟩

end Cert.Proof

end
